-- ==== Defs.lean ====
def Pre_XQuant (m : (ℓ : Loc Cert.XQuant.nD Cert.XQuant.τ Cert.XQuant.sig) → Buf (Elt Bits) ℓ) : Prop :=
  True

def Pre_XQuantIdeal (m : (ℓ : Loc Cert.XQuantIdeal.nD Cert.XQuantIdeal.τ Cert.XQuantIdeal.sig) → Buf (Elt Ideal) ℓ) : Prop :=
  True

def Pre_XQuantRefIdeal (m : (ℓ : Loc Cert.XQuantRefIdeal.nD Cert.XQuantRefIdeal.τ Cert.XQuantRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbRefIdeal (m : (ℓ : Loc Cert.ProjAbRefIdeal.nD Cert.ProjAbRefIdeal.τ Cert.ProjAbRefIdeal.sig) → Buf (Elt Ideal) ℓ) : Prop :=
  True

def Pre_YQuant (m : (ℓ : Loc Cert.YQuant.nD Cert.YQuant.τ Cert.YQuant.sig) → Buf (Elt Bits) ℓ) : Prop :=
  True

def Pre_YQuantIdeal (m : (ℓ : Loc Cert.YQuantIdeal.nD Cert.YQuantIdeal.τ Cert.YQuantIdeal.sig) → Buf (Elt Ideal) ℓ) : Prop :=
  True

def Pre_YQuantRefIdeal (m : (ℓ : Loc Cert.YQuantRefIdeal.nD Cert.YQuantRefIdeal.τ Cert.YQuantRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def quiescent_XQuant [hXQuant : Cert.XQuant.Facts] : Prop :=
  ∀ (m : (ℓ : Loc Cert.XQuant.nD Cert.XQuant.τ Cert.XQuant.sig) → Buf (Elt Bits) ℓ) (g : Dev Cert.XQuant.nD → PrngReg), Pre_XQuant m →
    θ_run (Cert.XQuant.defs (F := Bits)) (onTc (τ := Cert.XQuant.τ) (Cert.XQuant.main (F := Bits))) ⟨m, fun _ => 0, g⟩ (fun r => (∀ c : Dev Cert.XQuant.nD,
      r.2.mem ((c.tc : Thread Cert.XQuant.nD Cert.XQuant.τ).loc Cert.XQuant.main_arg0) = m ((c.tc : Thread Cert.XQuant.nD Cert.XQuant.τ).loc Cert.XQuant.main_arg0))
      ∧ r.2.sem = fun _ => 0)

def quiescent_XQuantIdeal [hXQuantIdeal : Cert.XQuantIdeal.Facts] : Prop :=
  ∀ (m : (ℓ : Loc Cert.XQuantIdeal.nD Cert.XQuantIdeal.τ Cert.XQuantIdeal.sig) → Buf (Elt Ideal) ℓ) (g : Dev Cert.XQuantIdeal.nD → PrngReg), Pre_XQuantIdeal m →
    θ_run (Cert.XQuantIdeal.defs (F := Ideal)) (onTc (τ := Cert.XQuantIdeal.τ) (Cert.XQuantIdeal.main (F := Ideal))) ⟨m, fun _ => 0, g⟩ (fun r => (∀ c : Dev Cert.XQuantIdeal.nD,
      r.2.mem ((c.tc : Thread Cert.XQuantIdeal.nD Cert.XQuantIdeal.τ).loc Cert.XQuantIdeal.main_arg0) = m ((c.tc : Thread Cert.XQuantIdeal.nD Cert.XQuantIdeal.τ).loc Cert.XQuantIdeal.main_arg0))
      ∧ r.2.sem = fun _ => 0)

def quiescent_XQuantRefIdeal [hXQuantRefIdeal : Cert.XQuantRefIdeal.Facts] : Prop :=
  ∀ (m : (ℓ : Loc Cert.XQuantRefIdeal.nD Cert.XQuantRefIdeal.τ Cert.XQuantRefIdeal.sig) → Buf (Elt Ideal) ℓ) (g : Dev Cert.XQuantRefIdeal.nD → PrngReg), Pre_XQuantRefIdeal m →
    θ_run (Cert.XQuantRefIdeal.defs (F := Ideal)) (onTc (τ := Cert.XQuantRefIdeal.τ) (Cert.XQuantRefIdeal.main (F := Ideal))) ⟨m, fun _ => 0, g⟩ (fun r => (∀ c : Dev Cert.XQuantRefIdeal.nD,
      r.2.mem ((c.tc : Thread Cert.XQuantRefIdeal.nD Cert.XQuantRefIdeal.τ).loc Cert.XQuantRefIdeal.main_arg0) = m ((c.tc : Thread Cert.XQuantRefIdeal.nD Cert.XQuantRefIdeal.τ).loc Cert.XQuantRefIdeal.main_arg0))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1)
      ∧ r.2.mem ((c.tc : Thread Cert.ProjAb.nD Cert.ProjAb.τ).loc Cert.ProjAb.main_arg2) = m ((c.tc : Thread Cert.ProjAb.nD Cert.ProjAb.τ).loc Cert.ProjAb.main_arg2)
      ∧ r.2.mem ((c.tc : Thread Cert.ProjAb.nD Cert.ProjAb.τ).loc Cert.ProjAb.main_arg3) = m ((c.tc : Thread Cert.ProjAb.nD Cert.ProjAb.τ).loc Cert.ProjAb.main_arg3))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1)
      ∧ r.2.mem ((c.tc : Thread Cert.ProjAbIdeal.nD Cert.ProjAbIdeal.τ).loc Cert.ProjAbIdeal.main_arg2) = m ((c.tc : Thread Cert.ProjAbIdeal.nD Cert.ProjAbIdeal.τ).loc Cert.ProjAbIdeal.main_arg2)
      ∧ r.2.mem ((c.tc : Thread Cert.ProjAbIdeal.nD Cert.ProjAbIdeal.τ).loc Cert.ProjAbIdeal.main_arg3) = m ((c.tc : Thread Cert.ProjAbIdeal.nD Cert.ProjAbIdeal.τ).loc Cert.ProjAbIdeal.main_arg3))
      ∧ r.2.sem = fun _ => 0)

def quiescent_ProjAbRefIdeal [hProjAbRefIdeal : Cert.ProjAbRefIdeal.Facts] : Prop :=
  ∀ (m : (ℓ : Loc Cert.ProjAbRefIdeal.nD Cert.ProjAbRefIdeal.τ Cert.ProjAbRefIdeal.sig) → Buf (Elt Ideal) ℓ) (g : Dev Cert.ProjAbRefIdeal.nD → PrngReg), Pre_ProjAbRefIdeal m →
    θ_run (Cert.ProjAbRefIdeal.defs (F := Ideal)) (onTc (τ := Cert.ProjAbRefIdeal.τ) (Cert.ProjAbRefIdeal.main (F := Ideal))) ⟨m, fun _ => 0, g⟩ (fun r => (∀ c : Dev Cert.ProjAbRefIdeal.nD,
      r.2.mem ((c.tc : Thread Cert.ProjAbRefIdeal.nD Cert.ProjAbRefIdeal.τ).loc Cert.ProjAbRefIdeal.main_arg0) = m ((c.tc : Thread Cert.ProjAbRefIdeal.nD Cert.ProjAbRefIdeal.τ).loc Cert.ProjAbRefIdeal.main_arg0)
      ∧ r.2.mem ((c.tc : Thread Cert.ProjAbRefIdeal.nD Cert.ProjAbRefIdeal.τ).loc Cert.ProjAbRefIdeal.main_arg1) = m ((c.tc : Thread Cert.ProjAbRefIdeal.nD Cert.ProjAbRefIdeal.τ).loc Cert.ProjAbRefIdeal.main_arg1)
      ∧ r.2.mem ((c.tc : Thread Cert.ProjAbRefIdeal.nD Cert.ProjAbRefIdeal.τ).loc Cert.ProjAbRefIdeal.main_arg2) = m ((c.tc : Thread Cert.ProjAbRefIdeal.nD Cert.ProjAbRefIdeal.τ).loc Cert.ProjAbRefIdeal.main_arg2)
      ∧ r.2.mem ((c.tc : Thread Cert.ProjAbRefIdeal.nD Cert.ProjAbRefIdeal.τ).loc Cert.ProjAbRefIdeal.main_arg3) = m ((c.tc : Thread Cert.ProjAbRefIdeal.nD Cert.ProjAbRefIdeal.τ).loc Cert.ProjAbRefIdeal.main_arg3))
      ∧ r.2.sem = fun _ => 0)

def quiescent_YQuant [hYQuant : Cert.YQuant.Facts] : Prop :=
  ∀ (m : (ℓ : Loc Cert.YQuant.nD Cert.YQuant.τ Cert.YQuant.sig) → Buf (Elt Bits) ℓ) (g : Dev Cert.YQuant.nD → PrngReg), Pre_YQuant m →
    θ_run (Cert.YQuant.defs (F := Bits)) (onTc (τ := Cert.YQuant.τ) (Cert.YQuant.main (F := Bits))) ⟨m, fun _ => 0, g⟩ (fun r => (∀ c : Dev Cert.YQuant.nD,
      r.2.mem ((c.tc : Thread Cert.YQuant.nD Cert.YQuant.τ).loc Cert.YQuant.main_arg0) = m ((c.tc : Thread Cert.YQuant.nD Cert.YQuant.τ).loc Cert.YQuant.main_arg0))
      ∧ r.2.sem = fun _ => 0)

def quiescent_YQuantIdeal [hYQuantIdeal : Cert.YQuantIdeal.Facts] : Prop :=
  ∀ (m : (ℓ : Loc Cert.YQuantIdeal.nD Cert.YQuantIdeal.τ Cert.YQuantIdeal.sig) → Buf (Elt Ideal) ℓ) (g : Dev Cert.YQuantIdeal.nD → PrngReg), Pre_YQuantIdeal m →
    θ_run (Cert.YQuantIdeal.defs (F := Ideal)) (onTc (τ := Cert.YQuantIdeal.τ) (Cert.YQuantIdeal.main (F := Ideal))) ⟨m, fun _ => 0, g⟩ (fun r => (∀ c : Dev Cert.YQuantIdeal.nD,
      r.2.mem ((c.tc : Thread Cert.YQuantIdeal.nD Cert.YQuantIdeal.τ).loc Cert.YQuantIdeal.main_arg0) = m ((c.tc : Thread Cert.YQuantIdeal.nD Cert.YQuantIdeal.τ).loc Cert.YQuantIdeal.main_arg0))
      ∧ r.2.sem = fun _ => 0)

def quiescent_YQuantRefIdeal [hYQuantRefIdeal : Cert.YQuantRefIdeal.Facts] : Prop :=
  ∀ (m : (ℓ : Loc Cert.YQuantRefIdeal.nD Cert.YQuantRefIdeal.τ Cert.YQuantRefIdeal.sig) → Buf (Elt Ideal) ℓ) (g : Dev Cert.YQuantRefIdeal.nD → PrngReg), Pre_YQuantRefIdeal m →
    θ_run (Cert.YQuantRefIdeal.defs (F := Ideal)) (onTc (τ := Cert.YQuantRefIdeal.τ) (Cert.YQuantRefIdeal.main (F := Ideal))) ⟨m, fun _ => 0, g⟩ (fun r => (∀ c : Dev Cert.YQuantRefIdeal.nD,
      r.2.mem ((c.tc : Thread Cert.YQuantRefIdeal.nD Cert.YQuantRefIdeal.τ).loc Cert.YQuantRefIdeal.main_arg0) = m ((c.tc : Thread Cert.YQuantRefIdeal.nD Cert.YQuantRefIdeal.τ).loc Cert.YQuantRefIdeal.main_arg0))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3))
      ∧ r.2.sem = fun _ => 0)

def preserves_XQuant_XQuantIdeal : Prop :=
  True

def algebraic_XQuantIdeal_XQuantRefIdeal [hXQuantIdeal : Cert.XQuantIdeal.Facts] [hXQuantRefIdeal : Cert.XQuantRefIdeal.Facts] : Prop :=
  ∀ (m : (ℓ : Loc Cert.XQuantIdeal.nD Cert.XQuantIdeal.τ Cert.XQuantIdeal.sig) → Buf (Elt Ideal) ℓ) (g : Dev Cert.XQuantIdeal.nD → PrngReg)
    (m' : (ℓ : Loc Cert.XQuantRefIdeal.nD Cert.XQuantRefIdeal.τ Cert.XQuantRefIdeal.sig) → Buf (Elt Ideal) ℓ) (g' : Dev Cert.XQuantRefIdeal.nD → PrngReg), Pre_XQuantIdeal m →
    (∀ c : Dev Cert.XQuantIdeal.nD,
      m' ((c.tc : Thread Cert.XQuantRefIdeal.nD Cert.XQuantRefIdeal.τ).loc Cert.XQuantRefIdeal.main_arg0) = m ((c.tc : Thread Cert.XQuantIdeal.nD Cert.XQuantIdeal.τ).loc Cert.XQuantIdeal.main_arg0)) →
    ∃ (v0 : (c : Dev Cert.XQuantIdeal.nD) → Buf (Elt Ideal) ((c.tc : Thread Cert.XQuantIdeal.nD Cert.XQuantIdeal.τ).loc Cert.XQuantIdeal.main_v1_0)) (v1 : (c : Dev Cert.XQuantIdeal.nD) → Buf (Elt Ideal) ((c.tc : Thread Cert.XQuantIdeal.nD Cert.XQuantIdeal.τ).loc Cert.XQuantIdeal.main_v1_1)),
      θ_run (Cert.XQuantIdeal.defs (F := Ideal)) (onTc (τ := Cert.XQuantIdeal.τ) (Cert.XQuantIdeal.main (F := Ideal))) ⟨m, fun _ => 0, g⟩ (fun r => ∀ c : Dev Cert.XQuantIdeal.nD,
          r.2.mem ((c.tc : Thread Cert.XQuantIdeal.nD Cert.XQuantIdeal.τ).loc Cert.XQuantIdeal.main_v1_0) = v0 c
          ∧ r.2.mem ((c.tc : Thread Cert.XQuantIdeal.nD Cert.XQuantIdeal.τ).loc Cert.XQuantIdeal.main_v1_1) = v1 c
          ∧ r.2.mem ((c.tc : Thread Cert.XQuantIdeal.nD Cert.XQuantIdeal.τ).loc Cert.XQuantIdeal.main_arg0) = m ((c.tc : Thread Cert.XQuantIdeal.nD Cert.XQuantIdeal.τ).loc Cert.XQuantIdeal.main_arg0))
      ∧ θ_run (Cert.XQuantRefIdeal.defs (F := Ideal)) (onTc (τ := Cert.XQuantRefIdeal.τ) (Cert.XQuantRefIdeal.main (F := Ideal))) ⟨m', fun _ => 0, g'⟩ (fun r => ∀ c : Dev Cert.XQuantRefIdeal.nD,
          r.2.mem ((c.tc : Thread Cert.XQuantRefIdeal.nD Cert.XQuantRefIdeal.τ).loc Cert.XQuantRefIdeal.main_v1_0) = v0 c
          ∧ r.2.mem ((c.tc : Thread Cert.XQuantRefIdeal.nD Cert.XQuantRefIdeal.τ).loc Cert.XQuantRefIdeal.main_v1_1) = v1 c
          ∧ r.2.mem ((c.tc : Thread Cert.XQuantRefIdeal.nD Cert.XQuantRefIdeal.τ).loc Cert.XQuantRefIdeal.main_arg0) = m' ((c.tc : Thread Cert.XQuantRefIdeal.nD Cert.XQuantRefIdeal.τ).loc Cert.XQuantRefIdeal.main_arg0))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)) →
    ∃ (v0 : (c : Dev Cert.ProjInIdeal.nD) → Buf (Elt Ideal) ((c.tc : Thread Cert.ProjInIdeal.nD Cert.ProjInIdeal.τ).loc Cert.ProjInIdeal.main_v1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v1) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3))

def preserves_ProjAb_ProjAbIdeal : Prop :=
  True

def algebraic_ProjAbIdeal_ProjAbRefIdeal_on_gate_columns [hProjAbIdeal : Cert.ProjAbIdeal.Facts] [hProjAbRefIdeal : Cert.ProjAbRefIdeal.Facts] [hOn_gate_columns : Cert.On_gate_columns.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbRefIdeal.nD Cert.ProjAbRefIdeal.τ Cert.ProjAbRefIdeal.sig) → Buf (Elt Ideal) ℓ) (g' : Dev Cert.ProjAbRefIdeal.nD → PrngReg), Pre_ProjAbIdeal m →
    (∀ c : Dev Cert.ProjAbIdeal.nD,
      m' ((c.tc : Thread Cert.ProjAbRefIdeal.nD Cert.ProjAbRefIdeal.τ).loc Cert.ProjAbRefIdeal.main_arg0) = m ((c.tc : Thread Cert.ProjAbIdeal.nD Cert.ProjAbIdeal.τ).loc Cert.ProjAbIdeal.main_arg0)
      ∧ m' ((c.tc : Thread Cert.ProjAbRefIdeal.nD Cert.ProjAbRefIdeal.τ).loc Cert.ProjAbRefIdeal.main_arg1) = m ((c.tc : Thread Cert.ProjAbIdeal.nD Cert.ProjAbIdeal.τ).loc Cert.ProjAbIdeal.main_arg1)
      ∧ m' ((c.tc : Thread Cert.ProjAbRefIdeal.nD Cert.ProjAbRefIdeal.τ).loc Cert.ProjAbRefIdeal.main_arg2) = m ((c.tc : Thread Cert.ProjAbIdeal.nD Cert.ProjAbIdeal.τ).loc Cert.ProjAbIdeal.main_arg2)
      ∧ m' ((c.tc : Thread Cert.ProjAbRefIdeal.nD Cert.ProjAbRefIdeal.τ).loc Cert.ProjAbRefIdeal.main_arg3) = m ((c.tc : Thread Cert.ProjAbIdeal.nD Cert.ProjAbIdeal.τ).loc Cert.ProjAbIdeal.main_arg3)) →
    ∃ (v0 : (c : Dev Cert.ProjAbIdeal.nD) → Buf (Elt Ideal) ((c.tc : Thread Cert.ProjAbIdeal.nD Cert.ProjAbIdeal.τ).loc Cert.ProjAbIdeal.main_v1)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          (∀ i : (⟨2, ![288, 128]⟩ : Shape).Idx, (Cert.On_gate_columns.fn (F := Ideal) (m ((c.tc : Thread Cert.ProjAbIdeal.nD Cert.ProjAbIdeal.τ).loc Cert.ProjAbIdeal.main_arg0)) (m ((c.tc : Thread Cert.ProjAbIdeal.nD Cert.ProjAbIdeal.τ).loc Cert.ProjAbIdeal.main_arg1)) (m ((c.tc : Thread Cert.ProjAbIdeal.nD Cert.ProjAbIdeal.τ).loc Cert.ProjAbIdeal.main_arg2)) (m ((c.tc : Thread Cert.ProjAbIdeal.nD Cert.ProjAbIdeal.τ).loc Cert.ProjAbIdeal.main_arg3))) i = 1#1 → r.2.mem ((c.tc : Thread Cert.ProjAbIdeal.nD Cert.ProjAbIdeal.τ).loc Cert.ProjAbIdeal.main_v1) i = v0 c i)
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1)
          ∧ r.2.mem ((c.tc : Thread Cert.ProjAbIdeal.nD Cert.ProjAbIdeal.τ).loc Cert.ProjAbIdeal.main_arg2) = m ((c.tc : Thread Cert.ProjAbIdeal.nD Cert.ProjAbIdeal.τ).loc Cert.ProjAbIdeal.main_arg2)
          ∧ r.2.mem ((c.tc : Thread Cert.ProjAbIdeal.nD Cert.ProjAbIdeal.τ).loc Cert.ProjAbIdeal.main_arg3) = m ((c.tc : Thread Cert.ProjAbIdeal.nD Cert.ProjAbIdeal.τ).loc Cert.ProjAbIdeal.main_arg3))
      ∧ θ_run (Cert.ProjAbRefIdeal.defs (F := Ideal)) (onTc (τ := Cert.ProjAbRefIdeal.τ) (Cert.ProjAbRefIdeal.main (F := Ideal))) ⟨m', fun _ => 0, g'⟩ (fun r => ∀ c : Dev Cert.ProjAbRefIdeal.nD,
          (∀ i : (⟨2, ![288, 128]⟩ : Shape).Idx, (Cert.On_gate_columns.fn (F := Ideal) (m ((c.tc : Thread Cert.ProjAbIdeal.nD Cert.ProjAbIdeal.τ).loc Cert.ProjAbIdeal.main_arg0)) (m ((c.tc : Thread Cert.ProjAbIdeal.nD Cert.ProjAbIdeal.τ).loc Cert.ProjAbIdeal.main_arg1)) (m ((c.tc : Thread Cert.ProjAbIdeal.nD Cert.ProjAbIdeal.τ).loc Cert.ProjAbIdeal.main_arg2)) (m ((c.tc : Thread Cert.ProjAbIdeal.nD Cert.ProjAbIdeal.τ).loc Cert.ProjAbIdeal.main_arg3))) i = 1#1 → r.2.mem ((c.tc : Thread Cert.ProjAbRefIdeal.nD Cert.ProjAbRefIdeal.τ).loc Cert.ProjAbRefIdeal.main_v1) i = v0 c i)
          ∧ r.2.mem ((c.tc : Thread Cert.ProjAbRefIdeal.nD Cert.ProjAbRefIdeal.τ).loc Cert.ProjAbRefIdeal.main_arg0) = m' ((c.tc : Thread Cert.ProjAbRefIdeal.nD Cert.ProjAbRefIdeal.τ).loc Cert.ProjAbRefIdeal.main_arg0)
          ∧ r.2.mem ((c.tc : Thread Cert.ProjAbRefIdeal.nD Cert.ProjAbRefIdeal.τ).loc Cert.ProjAbRefIdeal.main_arg1) = m' ((c.tc : Thread Cert.ProjAbRefIdeal.nD Cert.ProjAbRefIdeal.τ).loc Cert.ProjAbRefIdeal.main_arg1)
          ∧ r.2.mem ((c.tc : Thread Cert.ProjAbRefIdeal.nD Cert.ProjAbRefIdeal.τ).loc Cert.ProjAbRefIdeal.main_arg2) = m' ((c.tc : Thread Cert.ProjAbRefIdeal.nD Cert.ProjAbRefIdeal.τ).loc Cert.ProjAbRefIdeal.main_arg2)
          ∧ r.2.mem ((c.tc : Thread Cert.ProjAbRefIdeal.nD Cert.ProjAbRefIdeal.τ).loc Cert.ProjAbRefIdeal.main_arg3) = m' ((c.tc : Thread Cert.ProjAbRefIdeal.nD Cert.ProjAbRefIdeal.τ).loc Cert.ProjAbRefIdeal.main_arg3))

def preserves_YQuant_YQuantIdeal : Prop :=
  True

def algebraic_YQuantIdeal_YQuantRefIdeal [hYQuantIdeal : Cert.YQuantIdeal.Facts] [hYQuantRefIdeal : Cert.YQuantRefIdeal.Facts] : Prop :=
  ∀ (m : (ℓ : Loc Cert.YQuantIdeal.nD Cert.YQuantIdeal.τ Cert.YQuantIdeal.sig) → Buf (Elt Ideal) ℓ) (g : Dev Cert.YQuantIdeal.nD → PrngReg)
    (m' : (ℓ : Loc Cert.YQuantRefIdeal.nD Cert.YQuantRefIdeal.τ Cert.YQuantRefIdeal.sig) → Buf (Elt Ideal) ℓ) (g' : Dev Cert.YQuantRefIdeal.nD → PrngReg), Pre_YQuantIdeal m →
    (∀ c : Dev Cert.YQuantIdeal.nD,
      m' ((c.tc : Thread Cert.YQuantRefIdeal.nD Cert.YQuantRefIdeal.τ).loc Cert.YQuantRefIdeal.main_arg0) = m ((c.tc : Thread Cert.YQuantIdeal.nD Cert.YQuantIdeal.τ).loc Cert.YQuantIdeal.main_arg0)) →
    ∃ (v0 : (c : Dev Cert.YQuantIdeal.nD) → Buf (Elt Ideal) ((c.tc : Thread Cert.YQuantIdeal.nD Cert.YQuantIdeal.τ).loc Cert.YQuantIdeal.main_v0_0)) (v1 : (c : Dev Cert.YQuantIdeal.nD) → Buf (Elt Ideal) ((c.tc : Thread Cert.YQuantIdeal.nD Cert.YQuantIdeal.τ).loc Cert.YQuantIdeal.main_v0_1)),
      θ_run (Cert.YQuantIdeal.defs (F := Ideal)) (onTc (τ := Cert.YQuantIdeal.τ) (Cert.YQuantIdeal.main (F := Ideal))) ⟨m, fun _ => 0, g⟩ (fun r => ∀ c : Dev Cert.YQuantIdeal.nD,
          r.2.mem ((c.tc : Thread Cert.YQuantIdeal.nD Cert.YQuantIdeal.τ).loc Cert.YQuantIdeal.main_v0_0) = v0 c
          ∧ r.2.mem ((c.tc : Thread Cert.YQuantIdeal.nD Cert.YQuantIdeal.τ).loc Cert.YQuantIdeal.main_v0_1) = v1 c
          ∧ r.2.mem ((c.tc : Thread Cert.YQuantIdeal.nD Cert.YQuantIdeal.τ).loc Cert.YQuantIdeal.main_arg0) = m ((c.tc : Thread Cert.YQuantIdeal.nD Cert.YQuantIdeal.τ).loc Cert.YQuantIdeal.main_arg0))
      ∧ θ_run (Cert.YQuantRefIdeal.defs (F := Ideal)) (onTc (τ := Cert.YQuantRefIdeal.τ) (Cert.YQuantRefIdeal.main (F := Ideal))) ⟨m', fun _ => 0, g'⟩ (fun r => ∀ c : Dev Cert.YQuantRefIdeal.nD,
          r.2.mem ((c.tc : Thread Cert.YQuantRefIdeal.nD Cert.YQuantRefIdeal.τ).loc Cert.YQuantRefIdeal.main_v0_0) = v0 c
          ∧ r.2.mem ((c.tc : Thread Cert.YQuantRefIdeal.nD Cert.YQuantRefIdeal.τ).loc Cert.YQuantRefIdeal.main_v0_1) = v1 c
          ∧ r.2.mem ((c.tc : Thread Cert.YQuantRefIdeal.nD Cert.YQuantRefIdeal.τ).loc Cert.YQuantRefIdeal.main_arg0) = m' ((c.tc : Thread Cert.YQuantRefIdeal.nD Cert.YQuantRefIdeal.τ).loc Cert.YQuantRefIdeal.main_arg0))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)) →
    ∃ (v0 : (c : Dev Cert.ProjOutIdeal.nD) → Buf (Elt Ideal) ((c.tc : Thread Cert.ProjOutIdeal.nD Cert.ProjOutIdeal.τ).loc Cert.ProjOutIdeal.main_v1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v1) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v1) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3))

def Claim : Prop :=
  ∃ (hXQuant : Cert.XQuant.Facts) (hXQuantIdeal : Cert.XQuantIdeal.Facts) (hXQuantRefIdeal : Cert.XQuantRefIdeal.Facts) (hProjIn : Cert.ProjIn.Facts) (hProjInIdeal : Cert.ProjInIdeal.Facts) (hProjInRefIdeal : Cert.ProjInRefIdeal.Facts) (hProjAb : Cert.ProjAb.Facts) (hProjAbIdeal : Cert.ProjAbIdeal.Facts) (hProjAbRefIdeal : Cert.ProjAbRefIdeal.Facts) (hYQuant : Cert.YQuant.Facts) (hYQuantIdeal : Cert.YQuantIdeal.Facts) (hYQuantRefIdeal : Cert.YQuantRefIdeal.Facts) (hProjOut : Cert.ProjOut.Facts) (hProjOutIdeal : Cert.ProjOutIdeal.Facts) (hProjOutRefIdeal : Cert.ProjOutRefIdeal.Facts) (hOn_gate_columns : Cert.On_gate_columns.Facts),
    quiescent_XQuant (hXQuant := hXQuant)
    ∧ quiescent_XQuantIdeal (hXQuantIdeal := hXQuantIdeal)
    ∧ quiescent_XQuantRefIdeal (hXQuantRefIdeal := hXQuantRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjAb (hProjAb := hProjAb)
    ∧ quiescent_ProjAbIdeal (hProjAbIdeal := hProjAbIdeal)
    ∧ quiescent_ProjAbRefIdeal (hProjAbRefIdeal := hProjAbRefIdeal)
    ∧ quiescent_YQuant (hYQuant := hYQuant)
    ∧ quiescent_YQuantIdeal (hYQuantIdeal := hYQuantIdeal)
    ∧ quiescent_YQuantRefIdeal (hYQuantRefIdeal := hYQuantRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ preserves_XQuant_XQuantIdeal
    ∧ algebraic_XQuantIdeal_XQuantRefIdeal (hXQuantIdeal := hXQuantIdeal) (hXQuantRefIdeal := hXQuantRefIdeal)
    ∧ preserves_ProjIn_ProjInIdeal
    ∧ algebraic_ProjInIdeal_ProjInRefIdeal (hProjInIdeal := hProjInIdeal) (hProjInRefIdeal := hProjInRefIdeal)
    ∧ preserves_ProjAb_ProjAbIdeal
    ∧ algebraic_ProjAbIdeal_ProjAbRefIdeal_on_gate_columns (hProjAbIdeal := hProjAbIdeal) (hProjAbRefIdeal := hProjAbRefIdeal) (hOn_gate_columns := hOn_gate_columns)
    ∧ preserves_YQuant_YQuantIdeal
    ∧ algebraic_YQuantIdeal_YQuantRefIdeal (hYQuantIdeal := hYQuantIdeal) (hYQuantRefIdeal := hYQuantRefIdeal)
    ∧ preserves_ProjOut_ProjOutIdeal
    ∧ algebraic_ProjOutIdeal_ProjOutRefIdeal (hProjOutIdeal := hProjOutIdeal) (hProjOutRefIdeal := hProjOutRefIdeal)
-- ==== On_gate_columns.lean ====
abbrev S288x8192 : Shape := ⟨2, ![288, 8192]⟩
abbrev S288x1 : Shape := ⟨2, ![288, 1]⟩
abbrev S8192x30816 : Shape := ⟨2, ![8192, 30816]⟩
abbrev S30816 : Shape := ⟨1, ![30816]⟩
abbrev S288x128 : Shape := ⟨2, ![288, 128]⟩
abbrev S_ : Shape := ⟨0, ![]⟩

class Facts : Prop where
  bcast_S_S288x128 : S_.BroadcastsInDim S288x128 (![] : Fin 0 → Fin S288x128.rank)

variable [Facts]

def fn {F : FTy → Type} [FloatOps F] (main_arg0 : IVec S288x8192 8) (main_arg1 : FVec F S288x1 .f32) (main_arg2 : IVec S8192x30816 8) (main_arg3 : FVec F S30816 .f32) : IVec S288x128 1 :=
  let main_v0 : IVec S288x128 32 := iotaInDim S288x128 32 1
  let main_c : IVec S_ 32 := constantI S_ 32 96#32
  let main_v1 : IVec S288x128 32 := broadcastInDim S288x128 ![] bcast_S_S288x128 main_c
  let main_v2 : IVec S288x128 1 := cmpi .slt main_v0 main_v1
  main_v2
-- ==== XQuant.lean ====
abbrev S72x4x8192 : Shape := ⟨3, ![72, 4, 8192]⟩
abbrev S288x8192 : Shape := ⟨2, ![288, 8192]⟩
abbrev S288x1 : Shape := ⟨2, ![288, 1]⟩
abbrev S32x8192 : Shape := ⟨2, ![32, 8192]⟩
abbrev S32x1 : Shape := ⟨2, ![32, 1]⟩
abbrev S32 : Shape := ⟨1, ![32]⟩

abbrev nBuf : Space → Nat
  | .hbm => 4
  | .vmem => 6
  | .smem => 0
  | _ => 0

abbrev bufTy : (tb : Table) → Fin (tcTables nBuf tb) → BufTy
  | .hbm, ⟨0, _⟩ => ⟨S72x4x8192, .bf16⟩
  | .hbm, ⟨1, _⟩ => ⟨S288x8192, .bf16⟩
  | .hbm, ⟨2, _⟩ => ⟨S288x8192, .i8⟩
  | .hbm, ⟨3, _⟩ => ⟨S288x1, .f32⟩
  | .local _ .vmem, ⟨0, _⟩ => ⟨S32x8192, .bf16⟩
  | .local _ .vmem, ⟨1, _⟩ => ⟨S32x8192, .bf16⟩
  | .local _ .vmem, ⟨2, _⟩ => ⟨S32x8192, .i8⟩
  | .local _ .vmem, ⟨3, _⟩ => ⟨S32x8192, .i8⟩
  | .local _ .vmem, ⟨4, _⟩ => ⟨S32x1, .f32⟩
  | .local _ .vmem, ⟨5, _⟩ => ⟨S32x1, .f32⟩
  | _, _ => ⟨S72x4x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XQuantRefIdeal.lean ====
abbrev S72x4x8192 : Shape := ⟨3, ![72, 4, 8192]⟩
abbrev S288x8192 : Shape := ⟨2, ![288, 8192]⟩
abbrev S288x1 : Shape := ⟨2, ![288, 1]⟩
abbrev S288 : Shape := ⟨1, ![288]⟩

abbrev nBuf : Space → Nat
  | .hbm => 4
  | .vmem => 3
  | .smem => 0
  | _ => 0

abbrev bufTy : (tb : Table) → Fin (tcTables nBuf tb) → BufTy
  | .hbm, ⟨0, _⟩ => ⟨S72x4x8192, .bf16⟩
  | .hbm, ⟨1, _⟩ => ⟨S288x8192, .bf16⟩
  | .hbm, ⟨2, _⟩ => ⟨S288x8192, .i8⟩
  | .hbm, ⟨3, _⟩ => ⟨S288x1, .f32⟩
  | .local _ .vmem, ⟨0, _⟩ => ⟨S288x8192, .bf16⟩
  | .local _ .vmem, ⟨1, _⟩ => ⟨S288x8192, .i8⟩
  | .local _ .vmem, ⟨2, _⟩ => ⟨S288x1, .f32⟩
  | _, _ => ⟨S72x4x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S288x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ProjIn.lean ====
abbrev S288x8192 : Shape := ⟨2, ![288, 8192]⟩
abbrev S288x1 : Shape := ⟨2, ![288, 1]⟩
abbrev S8192x30816 : Shape := ⟨2, ![8192, 30816]⟩
abbrev S30816 : Shape := ⟨1, ![30816]⟩
abbrev S1x30816 : Shape := ⟨2, ![1, 30816]⟩
abbrev S24x288x1280 : Shape := ⟨3, ![24, 288, 1280]⟩
abbrev S8192x128 : Shape := ⟨2, ![8192, 128]⟩
abbrev S8192x512 : Shape := ⟨2, ![8192, 512]⟩
abbrev S1x128 : Shape := ⟨2, ![1, 128]⟩
abbrev S1x512 : Shape := ⟨2, ![1, 512]⟩
abbrev S1x288x1280 : Shape := ⟨3, ![1, 288, 1280]⟩
abbrev S8192x256 : Shape := ⟨2, ![8192, 256]⟩
abbrev S1x256 : Shape := ⟨2, ![1, 256]⟩
abbrev S288x256 : Shape := ⟨2, ![288, 256]⟩
abbrev S1x288x256 : Shape := ⟨3, ![1, 288, 256]⟩

abbrev nBuf : Space → Nat
  | .hbm => 6
  | .vmem => 21
  | .smem => 0
  | _ => 0

abbrev bufTy : (tb : Table) → Fin (tcTables nBuf tb) → BufTy
  | .hbm, ⟨0, _⟩ => ⟨S288x8192, .i8⟩
  | .hbm, ⟨1, _⟩ => ⟨S288x1, .f32⟩
  | .hbm, ⟨2, _⟩ => ⟨S8192x30816, .i8⟩
  | .hbm, ⟨3, _⟩ => ⟨S30816, .f32⟩
  | .hbm, ⟨4, _⟩ => ⟨S1x30816, .f32⟩
  | .hbm, ⟨5, _⟩ => ⟨S24x288x1280, .bf16⟩
  | .local _ .vmem, ⟨0, _⟩ => ⟨S288x8192, .i8⟩
  | .local _ .vmem, ⟨1, _⟩ => ⟨S288x1, .f32⟩
  | .local _ .vmem, ⟨2, _⟩ => ⟨S8192x128, .i8⟩
  | .local _ .vmem, ⟨3, _⟩ => ⟨S8192x128, .i8⟩
  | .local _ .vmem, ⟨4, _⟩ => ⟨S8192x128, .i8⟩
  | .local _ .vmem, ⟨5, _⟩ => ⟨S8192x128, .i8⟩
  | .local _ .vmem, ⟨6, _⟩ => ⟨S8192x512, .i8⟩
  | .local _ .vmem, ⟨7, _⟩ => ⟨S8192x512, .i8⟩
  | .local _ .vmem, ⟨8, _⟩ => ⟨S8192x512, .i8⟩
  | .local _ .vmem, ⟨9, _⟩ => ⟨S8192x512, .i8⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x288x1280, .bf16⟩
  | .local _ .vmem, ⟨19, _⟩ => ⟨S1x288x1280, .bf16⟩
  | .local _ .vmem, ⟨20, _⟩ => ⟨S288x8192, .bf16⟩
  | _, _ => ⟨S288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S288x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x288x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjInRefIdeal.lean ====
abbrev S288x8192 : Shape := ⟨2, ![288, 8192]⟩
abbrev S288x1 : Shape := ⟨2, ![288, 1]⟩
abbrev S8192x30816 : Shape := ⟨2, ![8192, 30816]⟩
abbrev S30816 : Shape := ⟨1, ![30816]⟩
abbrev S1x30816 : Shape := ⟨2, ![1, 30816]⟩
abbrev S24x288x1280 : Shape := ⟨3, ![24, 288, 1280]⟩
abbrev S288x30816 : Shape := ⟨2, ![288, 30816]⟩
abbrev S288x3072 : Shape := ⟨2, ![288, 3072]⟩
abbrev S288x24x128 : Shape := ⟨3, ![288, 24, 128]⟩
abbrev S288x12288 : Shape := ⟨2, ![288, 12288]⟩
abbrev S288x24x512 : Shape := ⟨3, ![288, 24, 512]⟩
abbrev S288x24x1280 : Shape := ⟨3, ![288, 24, 1280]⟩

abbrev nBuf : Space → Nat
  | .hbm => 6
  | .vmem => 5
  | .smem => 0
  | _ => 0

abbrev bufTy : (tb : Table) → Fin (tcTables nBuf tb) → BufTy
  | .hbm, ⟨0, _⟩ => ⟨S288x8192, .i8⟩
  | .hbm, ⟨1, _⟩ => ⟨S288x1, .f32⟩
  | .hbm, ⟨2, _⟩ => ⟨S8192x30816, .i8⟩
  | .hbm, ⟨3, _⟩ => ⟨S30816, .f32⟩
  | .hbm, ⟨4, _⟩ => ⟨S1x30816, .f32⟩
  | .hbm, ⟨5, _⟩ => ⟨S24x288x1280, .bf16⟩
  | .local _ .vmem, ⟨0, _⟩ => ⟨S288x8192, .i8⟩
  | .local _ .vmem, ⟨1, _⟩ => ⟨S288x1, .f32⟩
  | .local _ .vmem, ⟨2, _⟩ => ⟨S8192x30816, .i8⟩
  | .local _ .vmem, ⟨3, _⟩ => ⟨S1x30816, .f32⟩
  | .local _ .vmem, ⟨4, _⟩ => ⟨S24x288x1280, .bf16⟩
  | _, _ => ⟨S288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S288x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x30816 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x30816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x288x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ProjAb.lean ====
abbrev S288x8192 : Shape := ⟨2, ![288, 8192]⟩
abbrev S288x1 : Shape := ⟨2, ![288, 1]⟩
abbrev S8192x30816 : Shape := ⟨2, ![8192, 30816]⟩
abbrev S30816 : Shape := ⟨1, ![30816]⟩
abbrev S1x30816 : Shape := ⟨2, ![1, 30816]⟩
abbrev S288x128 : Shape := ⟨2, ![288, 128]⟩
abbrev S8192x128 : Shape := ⟨2, ![8192, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S288x8192, .i8⟩
  | .hbm, ⟨1, _⟩ => ⟨S288x1, .f32⟩
  | .hbm, ⟨2, _⟩ => ⟨S8192x30816, .i8⟩
  | .hbm, ⟨3, _⟩ => ⟨S30816, .f32⟩
  | .hbm, ⟨4, _⟩ => ⟨S1x30816, .f32⟩
  | .hbm, ⟨5, _⟩ => ⟨S288x128, .bf16⟩
  | .local _ .vmem, ⟨0, _⟩ => ⟨S288x8192, .i8⟩
  | .local _ .vmem, ⟨1, _⟩ => ⟨S288x1, .f32⟩
  | .local _ .vmem, ⟨2, _⟩ => ⟨S8192x128, .i8⟩
  | .local _ .vmem, ⟨3, _⟩ => ⟨S1x128, .f32⟩
  | .local _ .vmem, ⟨4, _⟩ => ⟨S288x128, .bf16⟩
  | .local _ .vmem, ⟨5, _⟩ => ⟨S288x8192, .bf16⟩
  | _, _ => ⟨S288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c240_i32 : BitVec 32 := 240#32
  let v0 : BitVec 32 := Scalar.addi c240_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c240_i32 : BitVec 32 := 240#32
  let v0 : BitVec 32 := Scalar.addi c240_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S288x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S288x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ProjAbRefIdeal.lean ====
abbrev S288x8192 : Shape := ⟨2, ![288, 8192]⟩
abbrev S288x1 : Shape := ⟨2, ![288, 1]⟩
abbrev S8192x30816 : Shape := ⟨2, ![8192, 30816]⟩
abbrev S30816 : Shape := ⟨1, ![30816]⟩
abbrev S1x30816 : Shape := ⟨2, ![1, 30816]⟩
abbrev S288x128 : Shape := ⟨2, ![288, 128]⟩
abbrev S288x30816 : Shape := ⟨2, ![288, 30816]⟩
abbrev S288x96 : Shape := ⟨2, ![288, 96]⟩
abbrev S288x32 : Shape := ⟨2, ![288, 32]⟩

abbrev nBuf : Space → Nat
  | .hbm => 6
  | .vmem => 5
  | .smem => 0
  | _ => 0

abbrev bufTy : (tb : Table) → Fin (tcTables nBuf tb) → BufTy
  | .hbm, ⟨0, _⟩ => ⟨S288x8192, .i8⟩
  | .hbm, ⟨1, _⟩ => ⟨S288x1, .f32⟩
  | .hbm, ⟨2, _⟩ => ⟨S8192x30816, .i8⟩
  | .hbm, ⟨3, _⟩ => ⟨S30816, .f32⟩
  | .hbm, ⟨4, _⟩ => ⟨S1x30816, .f32⟩
  | .hbm, ⟨5, _⟩ => ⟨S288x128, .bf16⟩
  | .local _ .vmem, ⟨0, _⟩ => ⟨S288x8192, .i8⟩
  | .local _ .vmem, ⟨1, _⟩ => ⟨S288x1, .f32⟩
  | .local _ .vmem, ⟨2, _⟩ => ⟨S8192x30816, .i8⟩
  | .local _ .vmem, ⟨3, _⟩ => ⟨S1x30816, .f32⟩
  | .local _ .vmem, ⟨4, _⟩ => ⟨S288x128, .bf16⟩
  | _, _ => ⟨S288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S288x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x30816 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x30816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== YQuant.lean ====
abbrev S288x12288 : Shape := ⟨2, ![288, 12288]⟩
abbrev S288x1 : Shape := ⟨2, ![288, 1]⟩
abbrev S32x12288 : Shape := ⟨2, ![32, 12288]⟩
abbrev S32x1 : Shape := ⟨2, ![32, 1]⟩
abbrev S32 : Shape := ⟨1, ![32]⟩

abbrev nBuf : Space → Nat
  | .hbm => 3
  | .vmem => 6
  | .smem => 0
  | _ => 0

abbrev bufTy : (tb : Table) → Fin (tcTables nBuf tb) → BufTy
  | .hbm, ⟨0, _⟩ => ⟨S288x12288, .f32⟩
  | .hbm, ⟨1, _⟩ => ⟨S288x12288, .i8⟩
  | .hbm, ⟨2, _⟩ => ⟨S288x1, .f32⟩
  | .local _ .vmem, ⟨0, _⟩ => ⟨S32x12288, .f32⟩
  | .local _ .vmem, ⟨1, _⟩ => ⟨S32x12288, .f32⟩
  | .local _ .vmem, ⟨2, _⟩ => ⟨S32x12288, .i8⟩
  | .local _ .vmem, ⟨3, _⟩ => ⟨S32x12288, .i8⟩
  | .local _ .vmem, ⟨4, _⟩ => ⟨S32x1, .f32⟩
  | .local _ .vmem, ⟨5, _⟩ => ⟨S32x1, .f32⟩
  | _, _ => ⟨S288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x12288 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== YQuantRefIdeal.lean ====
abbrev S288x12288 : Shape := ⟨2, ![288, 12288]⟩
abbrev S288x1 : Shape := ⟨2, ![288, 1]⟩
abbrev S288 : Shape := ⟨1, ![288]⟩

abbrev nBuf : Space → Nat
  | .hbm => 3
  | .vmem => 3
  | .smem => 0
  | _ => 0

abbrev bufTy : (tb : Table) → Fin (tcTables nBuf tb) → BufTy
  | .hbm, ⟨0, _⟩ => ⟨S288x12288, .f32⟩
  | .hbm, ⟨1, _⟩ => ⟨S288x12288, .i8⟩
  | .hbm, ⟨2, _⟩ => ⟨S288x1, .f32⟩
  | .local _ .vmem, ⟨0, _⟩ => ⟨S288x12288, .f32⟩
  | .local _ .vmem, ⟨1, _⟩ => ⟨S288x12288, .i8⟩
  | .local _ .vmem, ⟨2, _⟩ => ⟨S288x1, .f32⟩
  | _, _ => ⟨S288x12288, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S288x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x12288 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ProjOut.lean ====
abbrev S288x12288 : Shape := ⟨2, ![288, 12288]⟩
abbrev S288x1 : Shape := ⟨2, ![288, 1]⟩
abbrev S12288x8192 : Shape := ⟨2, ![12288, 8192]⟩
abbrev S8192 : Shape := ⟨1, ![8192]⟩
abbrev S1x8192 : Shape := ⟨2, ![1, 8192]⟩
abbrev S288x8192 : Shape := ⟨2, ![288, 8192]⟩
abbrev S12288x512 : Shape := ⟨2, ![12288, 512]⟩
abbrev S1x512 : Shape := ⟨2, ![1, 512]⟩
abbrev S288x512 : Shape := ⟨2, ![288, 512]⟩

abbrev nBuf : Space → Nat
  | .hbm => 6
  | .vmem => 9
  | .smem => 0
  | _ => 0

abbrev bufTy : (tb : Table) → Fin (tcTables nBuf tb) → BufTy
  | .hbm, ⟨0, _⟩ => ⟨S288x12288, .i8⟩
  | .hbm, ⟨1, _⟩ => ⟨S288x1, .f32⟩
  | .hbm, ⟨2, _⟩ => ⟨S12288x8192, .i8⟩
  | .hbm, ⟨3, _⟩ => ⟨S8192, .f32⟩
  | .hbm, ⟨4, _⟩ => ⟨S1x8192, .f32⟩
  | .hbm, ⟨5, _⟩ => ⟨S288x8192, .bf16⟩
  | .local _ .vmem, ⟨0, _⟩ => ⟨S288x12288, .i8⟩
  | .local _ .vmem, ⟨1, _⟩ => ⟨S288x1, .f32⟩
  | .local _ .vmem, ⟨2, _⟩ => ⟨S12288x512, .i8⟩
  | .local _ .vmem, ⟨3, _⟩ => ⟨S12288x512, .i8⟩
  | .local _ .vmem, ⟨4, _⟩ => ⟨S1x512, .f32⟩
  | .local _ .vmem, ⟨5, _⟩ => ⟨S1x512, .f32⟩
  | .local _ .vmem, ⟨6, _⟩ => ⟨S288x512, .bf16⟩
  | .local _ .vmem, ⟨7, _⟩ => ⟨S288x512, .bf16⟩
  | .local _ .vmem, ⟨8, _⟩ => ⟨S288x12288, .bf16⟩
  | _, _ => ⟨S288x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S288x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12288x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S288x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjOutRefIdeal.lean ====
abbrev S288x12288 : Shape := ⟨2, ![288, 12288]⟩
abbrev S288x1 : Shape := ⟨2, ![288, 1]⟩
abbrev S12288x8192 : Shape := ⟨2, ![12288, 8192]⟩
abbrev S8192 : Shape := ⟨1, ![8192]⟩
abbrev S1x8192 : Shape := ⟨2, ![1, 8192]⟩
abbrev S288x8192 : Shape := ⟨2, ![288, 8192]⟩

abbrev nBuf : Space → Nat
  | .hbm => 6
  | .vmem => 5
  | .smem => 0
  | _ => 0

abbrev bufTy : (tb : Table) → Fin (tcTables nBuf tb) → BufTy
  | .hbm, ⟨0, _⟩ => ⟨S288x12288, .i8⟩
  | .hbm, ⟨1, _⟩ => ⟨S288x1, .f32⟩
  | .hbm, ⟨2, _⟩ => ⟨S12288x8192, .i8⟩
  | .hbm, ⟨3, _⟩ => ⟨S8192, .f32⟩
  | .hbm, ⟨4, _⟩ => ⟨S1x8192, .f32⟩
  | .hbm, ⟨5, _⟩ => ⟨S288x8192, .bf16⟩
  | .local _ .vmem, ⟨0, _⟩ => ⟨S288x12288, .i8⟩
  | .local _ .vmem, ⟨1, _⟩ => ⟨S288x1, .f32⟩
  | .local _ .vmem, ⟨2, _⟩ => ⟨S12288x8192, .i8⟩
  | .local _ .vmem, ⟨3, _⟩ => ⟨S1x8192, .f32⟩
  | .local _ .vmem, ⟨4, _⟩ => ⟨S288x8192, .bf16⟩
  | _, _ => ⟨S288x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S288x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.ProjAbRun.lean ====
module

public import proofs.«01_k».proof.Proof.Gen.ProjAb.Frame
public import proofs.«01_k».proof.Proof.Gen.ProjAb.Skeleton
public import Idealize.ShloMosaic.Lib.Pipeline.ArrRel
public import Idealize.ShloMosaic.Lib.Claim

@[expose] public section

set_option maxRecDepth 16384

noncomputable section

/-! The last block of 128 columns of the input projection overhangs the weights and their scales by 32 columns. What the
staging buffers hold past the arrays' ends is not named, so the proof data are relational: the body leaves the payload of the
four fetched blocks, whatever the buffers held before. -/

namespace Cert.ProjAb.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- The condition under which the body converts the codes. -/
abbrev cond0_0 (i : grid0.Coords) : Prop :=
  (Scalar.cmpi .ne (Scalar.extui (Scalar.cmpi .eq (BitVec.ofNat 32 (i 0).val) 0#32)) 0#32) = 1#1

/-- It holds at the one grid point. -/
theorem hcond0_0 (t : Fin cfg0.N) : cond0_0 (grid0.coords t) := by
  have ht : t.val < 1 := Nat.lt_of_lt_of_eq t.isLt N_0
  have e0 : (grid0.coords t 0).val = t.val / 1 % 1 := Pipeline.Grid.coords_val t 0 (by decide) rfl
  have e : (grid0.coords t 0).val = 0 := by omega
  simp only [cond0_0, e]
  decide

/-- The staging buffer through which the output's contents are read. -/
abbrev VO0_4 : View sig .tc .vmem S288x128 .bf16 := (Memref.whole cc0_stg4_0 : Memref sig .tc .vmem S288x128 .bf16).view
/-- The windows' current staging buffers. -/
abbrev ms0_0 (t : Fin cfg0.N) : Memref sig .tc .vmem S288x8192 .i8 := win0_0.stage (cfg0.slots t 0)
abbrev ms0_1 (t : Fin cfg0.N) : Memref sig .tc .vmem S288x1 .f32 := win0_1.stage (cfg0.slots t 1)
abbrev ms0_2 (t : Fin cfg0.N) : Memref sig .tc .vmem S8192x128 .i8 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S288x128 .bf16 := win0_4.stage (cfg0.slots t 4)
/-- The scratch holds the codes after their conversion. -/
abbrev scM0_0 : Memref sig .tc .vmem S288x8192 .bf16 := Memref.whole cc0_scratch0

/-- The region's invariant: the scratch and the generator's register, at anything. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body's run on any staging buffers, with the pieces that it leaves in the output and in the scratch. -/
noncomputable def kernelRun0_A (c : Dev nD) (i : grid0.Coords) (arg1 : Memref sig .tc .vmem S288x8192 .i8) (harg1 : arg1.IsWhole)
    (arg2 : Memref sig .tc .vmem S288x1 .f32) (harg2 : arg2.IsWhole) (arg3 : Memref sig .tc .vmem S8192x128 .i8) (harg3 : arg3.IsWhole)
    (arg4 : Memref sig .tc .vmem S1x128 .f32) (harg4 : arg4.IsWhole) (arg5 : Memref sig .tc .vmem S288x128 .bf16) (harg5 : arg5.IsWhole)
    (arg6 : Memref sig .tc .vmem S288x8192 .bf16) (harg6 : arg6.IsWhole) (hc0 : cond0_0 i)
    (x0 : Vec F S288x8192 .i8) (x1 : Vec F S288x1 .f32) (x2 : Vec F S8192x128 .i8) (x3 : Vec F S1x128 .f32) :
    Σ' (L4 : List (View.Piece (Elt F) S288x128 .bf16)), { LS0 : List (View.Piece (Elt F) S288x8192 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_proj_ab i arg1 harg1 arg2 harg2 arg3 harg3 arg4 harg4 arg5 harg5 arg6 harg6) K } := by
  refine ⟨?_, ?_, fun E K => ?run⟩
  case run =>
    simp only [cc0_proj_ab_eq_skeleton]; unfold cc0_proj_ab_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-- The output's one piece is the whole block. -/
theorem cover0_A_4 (c : Dev nD) (i : grid0.Coords) (arg1 : Memref sig .tc .vmem S288x8192 .i8) (harg1 : arg1.IsWhole)
    (arg2 : Memref sig .tc .vmem S288x1 .f32) (harg2 : arg2.IsWhole) (arg3 : Memref sig .tc .vmem S8192x128 .i8) (harg3 : arg3.IsWhole)
    (arg4 : Memref sig .tc .vmem S1x128 .f32) (harg4 : arg4.IsWhole) (arg5 : Memref sig .tc .vmem S288x128 .bf16) (harg5 : arg5.IsWhole)
    (arg6 : Memref sig .tc .vmem S288x8192 .bf16) (harg6 : arg6.IsWhole) (hc0 : cond0_0 i)
    (x0 : Vec F S288x8192 .i8) (x1 : Vec F S288x1 .f32) (x2 : Vec F S8192x128 .i8) (x3 : Vec F S1x128 .f32) (y : S288x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S288x128.size (by sl_kernel_rfl) y

theorem hz00 : (![0, 0] : Fin 2 → Nat) = fun _ => 0 := funext fun a => by fin_cases a <;> rfl

/-- Read back, the piece is the payload of the four blocks. -/
theorem out_A (c : Dev nD) (i : grid0.Coords) (a1 : Memref sig .tc .vmem S288x8192 .i8) (h1 : a1.IsWhole)
    (a2 : Memref sig .tc .vmem S288x1 .f32) (h2 : a2.IsWhole) (a3 : Memref sig .tc .vmem S8192x128 .i8) (h3 : a3.IsWhole)
    (a4 : Memref sig .tc .vmem S1x128 .f32) (h4 : a4.IsWhole) (a5 : Memref sig .tc .vmem S288x128 .bf16) (h5 : a5.IsWhole)
    (a6 : Memref sig .tc .vmem S288x8192 .bf16) (h6 : a6.IsWhole) (hc : cond0_0 i)
    (x0 : Vec F S288x8192 .i8) (x1 : Vec F S288x1 .f32) (x2 : Vec F S8192x128 .i8) (x3 : Vec F S1x128 .f32) :
    VO0_4.read (Elt F) (VO0_4.writes (Elt F) VO0_4.junk (kernelRun0_A c i a1 h1 a2 h2 a3 h3 a4 h4 a5 h5 a6 h6 hc x0 x1 x2 x3).1)
      = k0_pay2 (k0_pay1 x0) x2 x1 x3 := by
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S288x128) hz00, View.readCov_unit_zero (S := S288x8192) _ hz00]
  simp only [View.readAt_eq_ld, h1.read_unread, h2.read_unread, h3.read_unread, h4.read_unread,
    View.ld_unit_zero (S := S288x8192) hz00, View.ld_unit_zero (S := S288x1) hz00, View.ld_unit_zero (S := S8192x128) hz00,
    View.ld_unit_zero (S := S1x128) hz00]

/-- What a staging buffer holds after a fetch, if it held `d`. -/
def filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- What the body may leave in the output's staging buffer. -/
def leaves4 (c : Dev nD) (t : Fin cfg0.N) (X : Vec F S288x128 .bf16) : Prop :=
  ∃ d0 d1 d2 d3, X = k0_pay2 (k0_pay1 (filled m c 0 t d0 : Vec F S288x8192 .i8)) (filled m c 2 t d2 : Vec F S8192x128 .i8)
    (filled m c 1 t d1 : Vec F S288x1 .f32) (filled m c 3 t d3 : Vec F S1x128 .f32)

/-- The proof data: the arrays as the region finds them; the body leaves its payload in the output. -/
def rdat (c : Dev nD) : RDat τ (Elt F) Unit ℕ (UR sig nD τ) ℕ cfg0 c where
  A w := V m c (Pipeline.arrRef spec0 w)
  after w t _ X := match w, X with
    | ⟨4, _⟩, X => leaves4 m c t X
    | _, _ => True
  Φ _ := Pipeline.ΦA spec0 c
  q _ := fullShare
  owed _ := 0

theorem rA_eq (c : Dev nD) (w : Fin cfg0.W) : (rdat m c).A w = V m c (Pipeline.arrRef spec0 w) := by
  dsimp only [rdat]

theorem fetched_eq (c : Dev nD) (w : Fin cfg0.W) (t : Fin cfg0.N) (d) : (rdat m c).fetched w t d = filled m c w t d := by
  unfold RDat.fetched RDat.blockOf filled iblk; rw [rA_eq]

set_option maxHeartbeats 3200000 in
/-- The body at the grid point, on buffers that hold any contents. -/
theorem sound_body (c : Dev nD) (t : Fin cfg0.N) (x0 : Vec F S288x8192 .i8) (x1 : Vec F S288x1 .f32) (x2 : Vec F S8192x128 .i8)
    (x3 : Vec F S1x128 .f32) (x4 : Vec F S288x128 .bf16) (O : sProp (MT nD τ sig Unit (Elt F) ℕ (UR sig nD τ) ℕ)) :
    iprop(Pipeline.ΦA spec0 c ∗ O ∗ owns (c : Thread nD τ) (ms0_0 t) fullShare x0 ∗ owns (c : Thread nD τ) (ms0_1 t) fullShare x1
        ∗ owns (c : Thread nD τ) (ms0_2 t) fullShare x2 ∗ owns (c : Thread nD τ) (ms0_3 t) fullShare x3 ∗ owns (c : Thread nD τ) (ms0_4 t) fullShare x4)
      ⊢ wp frame (wpE (defs₀ (F := F)) Variants.none c none) Set.univ (bodyAt0 t) (fun _ =>
        iprop(Pipeline.ΦA spec0 c ∗ O ∗ owns (c : Thread nD τ) (ms0_0 t) fullShare x0 ∗ owns (c : Thread nD τ) (ms0_1 t) fullShare x1
        ∗ owns (c : Thread nD τ) (ms0_2 t) fullShare x2 ∗ owns (c : Thread nD τ) (ms0_3 t) fullShare x3
        ∗ owns (c : Thread nD τ) (ms0_4 t) fullShare (k0_pay2 (k0_pay1 x0) x2 x1 x3))) := by
  unfold bodyAt0
  rw [PhiA0_eq]
  iintro ⟨⟨HS0, Hg⟩, Ho, H0, H1, H2, H3, H4⟩
  iapply ((kernelRun0_A c (grid0.coords t) _ _ _ _ _ _ _ _ _ _ _ _ (hcond0_0 t) x0 x1 x2 x3).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · unfold owns; iexists _; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact (View.read_writes_of_cover _ _ VO0_4 VO0_4.junk _ (cover0_A_4 c _ _ _ _ _ _ _ _ _ _ _ _ _ _ _ _ _ _)).trans
    (out_A c _ _ _ _ _ _ _ _ _ _ _ _ _ _ x0 x1 x2 x3)

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation of the relational data. -/
theorem body_obligation (c : Dev nD) : (rdat m c).BodyObligation (defs₀ (F := F)) Variants.none () Set.univ := fun t Y hY => by
  obtain ⟨d0, h0⟩ := ((rdat m c).finds_of_fetch (fetch0_0 t) _).mp (hY 0)
  obtain ⟨d1, h1⟩ := ((rdat m c).finds_of_fetch (fetch0_1 t) _).mp (hY 1)
  obtain ⟨d2, h2⟩ := ((rdat m c).finds_of_fetch (fetch0_2 t) _).mp (hY 2)
  obtain ⟨d3, h3⟩ := ((rdat m c).finds_of_fetch (fetch0_3 t) _).mp (hY 3)
  rw [fetched_eq] at h0 h1 h2 h3
  rw [bigSep_W0, bigSep_W0, defs₀_row]
  refine triple_restated (sound_body c t (Y 0) (Y 1) (Y 2) (Y 3) (Y 4) ((rdat m c).owesAt () t.castSucc)) rfl .rfl fun _ => ?_
  rw [show (rdat m c).Φ t.succ = Pipeline.ΦA spec0 c from rfl,
    show (rdat m c).owesAt () t.succ = (rdat m c).owesAt () t.castSucc from rfl]
  iintro ⟨HP, Ho, H0, H1, H2, H3, H4⟩
  isplitl [HP]; · iexact HP
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  iexists _; isplitr; swap; · iexact H4
  ipureintro
  exact ⟨d0, d1, d2, d3, by rw [h0, h1, h2, h3]⟩

theorem share_eq (c : Dev nD) (w : Fin cfg0.W) : (rdat m c).share w = fullShare := by
  unfold RDat.share
  split <;> rfl

set_option backward.isDefEq.respectTransparency.types false in
/-- Every run ends, with the arrays at contents that the proof data allow and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := share_eq m) (howed := fun _ _ => rfl) (V := V m) (hmain := hmain m Variants.none)
    (hA := rA_eq m) (hin := fun _ => .rfl) (hout := fun _ => .rfl)

variable {m} in
/-- The arguments end as launched. -/
theorem args_kept {r : PUnit × MemSt nD τ sig (Elt F)} (h : Pipeline.RDat.FramePost (cfgs 0) (rdat (F := F) m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((rA_eq m c 0).trans (V_main_arg0 m c)),
    (h.arr_in c 1 rfl).trans ((rA_eq m c 1).trans (V_main_arg1 m c)),
    (h.arr_in c 2 rfl).trans ((rA_eq m c 2).trans (V_main_arg2 m c)),
    ((h c).2 main_arg3 (Pipeline.mem_restRefs_of main_arg3 (by decide) (by decide))).trans (V_main_arg3 m c)⟩

/-- The frame: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept h.1 c, h.2⟩) (run_main m ρ)

end Cert.ProjAb.Gen

end
-- ==== Proof.ProjAbIdealRun.lean ====
module

public import proofs.«01_k».proof.Proof.Gen.ProjAbIdeal.Frame
public import proofs.«01_k».proof.Proof.Gen.ProjAbIdeal.Skeleton
public import Idealize.ShloMosaic.Lib.Pipeline.ArrRel
public import Idealize.ShloMosaic.Lib.Claim

@[expose] public section

set_option maxRecDepth 16384

noncomputable section

/-! The last block of 128 columns of the input projection overhangs the weights and their scales by 32 columns. What the
staging buffers hold past the arrays' ends is not named, so the proof data are relational: the body leaves the payload of the
four fetched blocks, whatever the buffers held before. -/

namespace Cert.ProjAbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- The condition under which the body converts the codes. -/
abbrev cond0_0 (i : grid0.Coords) : Prop :=
  (Scalar.cmpi .ne (Scalar.extui (Scalar.cmpi .eq (BitVec.ofNat 32 (i 0).val) 0#32)) 0#32) = 1#1

/-- It holds at the one grid point. -/
theorem hcond0_0 (t : Fin cfg0.N) : cond0_0 (grid0.coords t) := by
  have ht : t.val < 1 := Nat.lt_of_lt_of_eq t.isLt N_0
  have e0 : (grid0.coords t 0).val = t.val / 1 % 1 := Pipeline.Grid.coords_val t 0 (by decide) rfl
  have e : (grid0.coords t 0).val = 0 := by omega
  simp only [cond0_0, e]
  decide

/-- The staging buffer through which the output's contents are read. -/
abbrev VO0_4 : View sig .tc .vmem S288x128 .bf16 := (Memref.whole cc0_stg4_0 : Memref sig .tc .vmem S288x128 .bf16).view
/-- The windows' current staging buffers. -/
abbrev ms0_0 (t : Fin cfg0.N) : Memref sig .tc .vmem S288x8192 .i8 := win0_0.stage (cfg0.slots t 0)
abbrev ms0_1 (t : Fin cfg0.N) : Memref sig .tc .vmem S288x1 .f32 := win0_1.stage (cfg0.slots t 1)
abbrev ms0_2 (t : Fin cfg0.N) : Memref sig .tc .vmem S8192x128 .i8 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S288x128 .bf16 := win0_4.stage (cfg0.slots t 4)
/-- The scratch holds the codes after their conversion. -/
abbrev scM0_0 : Memref sig .tc .vmem S288x8192 .bf16 := Memref.whole cc0_scratch0

/-- The region's invariant: the scratch and the generator's register, at anything. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body's run on any staging buffers, with the pieces that it leaves in the output and in the scratch. -/
noncomputable def kernelRun0_A (c : Dev nD) (i : grid0.Coords) (arg1 : Memref sig .tc .vmem S288x8192 .i8) (harg1 : arg1.IsWhole)
    (arg2 : Memref sig .tc .vmem S288x1 .f32) (harg2 : arg2.IsWhole) (arg3 : Memref sig .tc .vmem S8192x128 .i8) (harg3 : arg3.IsWhole)
    (arg4 : Memref sig .tc .vmem S1x128 .f32) (harg4 : arg4.IsWhole) (arg5 : Memref sig .tc .vmem S288x128 .bf16) (harg5 : arg5.IsWhole)
    (arg6 : Memref sig .tc .vmem S288x8192 .bf16) (harg6 : arg6.IsWhole) (hc0 : cond0_0 i)
    (x0 : Vec F S288x8192 .i8) (x1 : Vec F S288x1 .f32) (x2 : Vec F S8192x128 .i8) (x3 : Vec F S1x128 .f32) :
    Σ' (L4 : List (View.Piece (Elt F) S288x128 .bf16)), { LS0 : List (View.Piece (Elt F) S288x8192 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_proj_ab i arg1 harg1 arg2 harg2 arg3 harg3 arg4 harg4 arg5 harg5 arg6 harg6) K } := by
  refine ⟨?_, ?_, fun E K => ?run⟩
  case run =>
    simp only [cc0_proj_ab_eq_skeleton]; unfold cc0_proj_ab_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-- The output's one piece is the whole block. -/
theorem cover0_A_4 (c : Dev nD) (i : grid0.Coords) (arg1 : Memref sig .tc .vmem S288x8192 .i8) (harg1 : arg1.IsWhole)
    (arg2 : Memref sig .tc .vmem S288x1 .f32) (harg2 : arg2.IsWhole) (arg3 : Memref sig .tc .vmem S8192x128 .i8) (harg3 : arg3.IsWhole)
    (arg4 : Memref sig .tc .vmem S1x128 .f32) (harg4 : arg4.IsWhole) (arg5 : Memref sig .tc .vmem S288x128 .bf16) (harg5 : arg5.IsWhole)
    (arg6 : Memref sig .tc .vmem S288x8192 .bf16) (harg6 : arg6.IsWhole) (hc0 : cond0_0 i)
    (x0 : Vec F S288x8192 .i8) (x1 : Vec F S288x1 .f32) (x2 : Vec F S8192x128 .i8) (x3 : Vec F S1x128 .f32) (y : S288x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S288x128.size (by sl_kernel_rfl) y

theorem hz00 : (![0, 0] : Fin 2 → Nat) = fun _ => 0 := funext fun a => by fin_cases a <;> rfl

/-- Read back, the piece is the payload of the four blocks. -/
theorem out_A (c : Dev nD) (i : grid0.Coords) (a1 : Memref sig .tc .vmem S288x8192 .i8) (h1 : a1.IsWhole)
    (a2 : Memref sig .tc .vmem S288x1 .f32) (h2 : a2.IsWhole) (a3 : Memref sig .tc .vmem S8192x128 .i8) (h3 : a3.IsWhole)
    (a4 : Memref sig .tc .vmem S1x128 .f32) (h4 : a4.IsWhole) (a5 : Memref sig .tc .vmem S288x128 .bf16) (h5 : a5.IsWhole)
    (a6 : Memref sig .tc .vmem S288x8192 .bf16) (h6 : a6.IsWhole) (hc : cond0_0 i)
    (x0 : Vec F S288x8192 .i8) (x1 : Vec F S288x1 .f32) (x2 : Vec F S8192x128 .i8) (x3 : Vec F S1x128 .f32) :
    VO0_4.read (Elt F) (VO0_4.writes (Elt F) VO0_4.junk (kernelRun0_A c i a1 h1 a2 h2 a3 h3 a4 h4 a5 h5 a6 h6 hc x0 x1 x2 x3).1)
      = k0_pay2 (k0_pay1 x0) x2 x1 x3 := by
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S288x128) hz00, View.readCov_unit_zero (S := S288x8192) _ hz00]
  simp only [View.readAt_eq_ld, h1.read_unread, h2.read_unread, h3.read_unread, h4.read_unread,
    View.ld_unit_zero (S := S288x8192) hz00, View.ld_unit_zero (S := S288x1) hz00, View.ld_unit_zero (S := S8192x128) hz00,
    View.ld_unit_zero (S := S1x128) hz00]

/-- What a staging buffer holds after a fetch, if it held `d`. -/
def filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- What the body may leave in the output's staging buffer. -/
def leaves4 (c : Dev nD) (t : Fin cfg0.N) (X : Vec F S288x128 .bf16) : Prop :=
  ∃ d0 d1 d2 d3, X = k0_pay2 (k0_pay1 (filled m c 0 t d0 : Vec F S288x8192 .i8)) (filled m c 2 t d2 : Vec F S8192x128 .i8)
    (filled m c 1 t d1 : Vec F S288x1 .f32) (filled m c 3 t d3 : Vec F S1x128 .f32)

/-- The proof data: the arrays as the region finds them; the body leaves its payload in the output. -/
def rdat (c : Dev nD) : RDat τ (Elt F) Unit ℕ (UR sig nD τ) ℕ cfg0 c where
  A w := V m c (Pipeline.arrRef spec0 w)
  after w t _ X := match w, X with
    | ⟨4, _⟩, X => leaves4 m c t X
    | _, _ => True
  Φ _ := Pipeline.ΦA spec0 c
  q _ := fullShare
  owed _ := 0

theorem rA_eq (c : Dev nD) (w : Fin cfg0.W) : (rdat m c).A w = V m c (Pipeline.arrRef spec0 w) := by
  dsimp only [rdat]

theorem fetched_eq (c : Dev nD) (w : Fin cfg0.W) (t : Fin cfg0.N) (d) : (rdat m c).fetched w t d = filled m c w t d := by
  unfold RDat.fetched RDat.blockOf filled iblk; rw [rA_eq]

set_option maxHeartbeats 3200000 in
/-- The body at the grid point, on buffers that hold any contents. -/
theorem sound_body (c : Dev nD) (t : Fin cfg0.N) (x0 : Vec F S288x8192 .i8) (x1 : Vec F S288x1 .f32) (x2 : Vec F S8192x128 .i8)
    (x3 : Vec F S1x128 .f32) (x4 : Vec F S288x128 .bf16) (O : sProp (MT nD τ sig Unit (Elt F) ℕ (UR sig nD τ) ℕ)) :
    iprop(Pipeline.ΦA spec0 c ∗ O ∗ owns (c : Thread nD τ) (ms0_0 t) fullShare x0 ∗ owns (c : Thread nD τ) (ms0_1 t) fullShare x1
        ∗ owns (c : Thread nD τ) (ms0_2 t) fullShare x2 ∗ owns (c : Thread nD τ) (ms0_3 t) fullShare x3 ∗ owns (c : Thread nD τ) (ms0_4 t) fullShare x4)
      ⊢ wp frame (wpE (defs₀ (F := F)) Variants.none c none) Set.univ (bodyAt0 t) (fun _ =>
        iprop(Pipeline.ΦA spec0 c ∗ O ∗ owns (c : Thread nD τ) (ms0_0 t) fullShare x0 ∗ owns (c : Thread nD τ) (ms0_1 t) fullShare x1
        ∗ owns (c : Thread nD τ) (ms0_2 t) fullShare x2 ∗ owns (c : Thread nD τ) (ms0_3 t) fullShare x3
        ∗ owns (c : Thread nD τ) (ms0_4 t) fullShare (k0_pay2 (k0_pay1 x0) x2 x1 x3))) := by
  unfold bodyAt0
  rw [PhiA0_eq]
  iintro ⟨⟨HS0, Hg⟩, Ho, H0, H1, H2, H3, H4⟩
  iapply ((kernelRun0_A c (grid0.coords t) _ _ _ _ _ _ _ _ _ _ _ _ (hcond0_0 t) x0 x1 x2 x3).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · unfold owns; iexists _; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact (View.read_writes_of_cover _ _ VO0_4 VO0_4.junk _ (cover0_A_4 c _ _ _ _ _ _ _ _ _ _ _ _ _ _ _ _ _ _)).trans
    (out_A c _ _ _ _ _ _ _ _ _ _ _ _ _ _ x0 x1 x2 x3)

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation of the relational data. -/
theorem body_obligation (c : Dev nD) : (rdat m c).BodyObligation (defs₀ (F := F)) Variants.none () Set.univ := fun t Y hY => by
  obtain ⟨d0, h0⟩ := ((rdat m c).finds_of_fetch (fetch0_0 t) _).mp (hY 0)
  obtain ⟨d1, h1⟩ := ((rdat m c).finds_of_fetch (fetch0_1 t) _).mp (hY 1)
  obtain ⟨d2, h2⟩ := ((rdat m c).finds_of_fetch (fetch0_2 t) _).mp (hY 2)
  obtain ⟨d3, h3⟩ := ((rdat m c).finds_of_fetch (fetch0_3 t) _).mp (hY 3)
  rw [fetched_eq] at h0 h1 h2 h3
  rw [bigSep_W0, bigSep_W0, defs₀_row]
  refine triple_restated (sound_body c t (Y 0) (Y 1) (Y 2) (Y 3) (Y 4) ((rdat m c).owesAt () t.castSucc)) rfl .rfl fun _ => ?_
  rw [show (rdat m c).Φ t.succ = Pipeline.ΦA spec0 c from rfl,
    show (rdat m c).owesAt () t.succ = (rdat m c).owesAt () t.castSucc from rfl]
  iintro ⟨HP, Ho, H0, H1, H2, H3, H4⟩
  isplitl [HP]; · iexact HP
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  iexists _; isplitr; swap; · iexact H4
  ipureintro
  exact ⟨d0, d1, d2, d3, by rw [h0, h1, h2, h3]⟩

theorem share_eq (c : Dev nD) (w : Fin cfg0.W) : (rdat m c).share w = fullShare := by
  unfold RDat.share
  split <;> rfl

set_option backward.isDefEq.respectTransparency.types false in
/-- Every run ends, with the arrays at contents that the proof data allow and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := share_eq m) (howed := fun _ _ => rfl) (V := V m) (hmain := hmain m Variants.none)
    (hA := rA_eq m) (hin := fun _ => .rfl) (hout := fun _ => .rfl)

variable {m} in
/-- The arguments end as launched. -/
theorem args_kept {r : PUnit × MemSt nD τ sig (Elt F)} (h : Pipeline.RDat.FramePost (cfgs 0) (rdat (F := F) m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((rA_eq m c 0).trans (V_main_arg0 m c)),
    (h.arr_in c 1 rfl).trans ((rA_eq m c 1).trans (V_main_arg1 m c)),
    (h.arr_in c 2 rfl).trans ((rA_eq m c 2).trans (V_main_arg2 m c)),
    ((h c).2 main_arg3 (Pipeline.mem_restRefs_of main_arg3 (by decide) (by decide))).trans (V_main_arg3 m c)⟩

/-- The frame: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept h.1 c, h.2⟩) (run_main m ρ)

end Cert.ProjAbIdeal.Gen

end
-- ==== Proof.Quant.lean ====
module

public import Idealize.ShloMosaic.Lib.Pointwise
public import Idealize.ShloMosaic.Lib.ValueIdx

@[expose] public section

noncomputable section

namespace Cert.Proof.Quant

open Idealize.ShloMosaic

/-- The largest magnitude of a row. -/
def rowMax {K : ℕ} (v : Fin K → EReal) : EReal :=
  Finset.fold max (Ideal.ofBits FTy.f32 0xFF800000#32) (fun k => FloatOps.absf (F := Ideal) (φ := .f32) (v k)) Finset.univ

/-- The scale of a row: its largest magnitude over 127, and 1 where all of it is zero. -/
def rowScale {K : ℕ} (v : Fin K → EReal) : EReal :=
  if rowMax v = 0 then 1 else Ideal.div (rowMax v) (Ideal.ofBits FTy.f32 0x42FE0000#32)

/-- The code of entry `k`: the entry over the row's scale, rounded to the nearest even integer, clipped to [-127, 127]. -/
def rowCode {K : ℕ} (v : Fin K → EReal) (k : Fin K) : BitVec 8 :=
  FloatOps.fptosi (F := Ideal) (φ := .f32) 8 (min (Scalar.ofBits (F := Ideal) .f32 0x42FE0000#32) (max (Scalar.ofBits (F := Ideal) .f32 0xC2FE0000#32)
    (Ideal.liftRound Ideal.roundHalfEven (Ideal.div (v k) (rowScale v)))))

/-- The code's operations, entry by entry. -/
theorem code_eq {s : Shape} (x y : FVec Ideal s .f32) (c d : Ideal .f32) (i : s.Idx) :
    (fptosi 8 (minimumf (broadcast s d) (maximumf (broadcast s c) (roundeven (divf x y)))) : IVec s 8) i
      = FloatOps.fptosi (F := Ideal) (φ := .f32) 8 (min d (max c (Ideal.liftRound Ideal.roundHalfEven (Ideal.div (x i) (y i))))) := rfl

theorem top_eq : (((127#32 : BitVec 32).toInt : ℝ) : EReal) = Ideal.ofBits FTy.f32 0x42FE0000#32 := by
  simp [Ideal.ofBits, Ideal.ieee]
  rw [← EReal.coe_mul]
  norm_num

theorem bot_eq : (((4294967169#32 : BitVec 32).toInt : ℝ) : EReal) = Ideal.ofBits FTy.f32 0xC2FE0000#32 := by
  simp [Ideal.ofBits, Ideal.ieee]
  rw [← EReal.coe_mul]
  norm_num

theorem sitofp_top : (Scalar.sitofp .f32 127#32 : Ideal .f32) = Scalar.ofBits .f32 0x42FE0000#32 := by
  pointwise
  exact top_eq

theorem sitofp_bot : (Scalar.sitofp .f32 4294967169#32 : Ideal .f32) = Scalar.ofBits .f32 0xC2FE0000#32 := by
  pointwise
  exact bot_eq

/-- A row-wise maximum of magnitudes: the largest magnitude of each row. -/
theorem rowMax_eq {R K : ℕ} (v : FVec Ideal ⟨2, ![R, K]⟩ .f32) (h : (⟨2, ![R, K]⟩ : Shape).Reduces [1] ⟨1, ![R]⟩)
    (hφ : FKind.Formats FTy.f32) (hacc : (0xFF800000#32 : BitVec FTy.f32.bits) = FKind.maximumf.neutral FTy.f32 hφ) :
    multiReduction .maximumf [1] ⟨1, ![R]⟩ (absf v) 0xFF800000#32 h hφ hacc = fun j => rowMax (fun k => v (ix2 (j 0) k)) := by
  funext j
  rw [multiReduction_maximumf_eq_fold]
  exact (h.fold_fiber_r2_a1 j _ _ _).trans rfl

end Cert.Proof.Quant

end
-- ==== Proof.XQuantKernel.lean ====
module

public import proofs.«01_k».proof.Proof.Gen.XQuantIdeal.Value
public import proofs.«01_k».proof.Proof.Quant

@[expose] public section

noncomputable section

namespace Cert.Proof.XQuantKernel

open Cert.XQuantIdeal Cert.XQuantIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## One block of 32 rows -/

theorem wide_apply (v : Vec Ideal S32x8192 .bf16) (r : Fin 32) (k : Fin 8192) : k0_pay1 v (ix2 r k) = v (ix2 r k) := by
  pointwise [k0_pay1]

theorem pay_scale (v : Vec Ideal S32x8192 .bf16) (r : Fin 32) :
    k0_pay2 v (ix2 r 0) = Quant.rowScale (fun k => v (ix2 r k)) := by
  unfold k0_pay2
  dsimp only
  rw [show multiReduction (F := Ideal) .maximumf [1] S32 (absf (k0_pay1 v)) 0xFF800000#32 reduces_S32x8192_S32 (.inl rfl) rfl
    = fun j => Quant.rowMax (fun k => (k0_pay1 v) (ix2 (j 0) k)) from Quant.rowMax_eq (k0_pay1 v) _ _ _]
  unfold Quant.rowScale
  pointwise [wide_apply]

theorem spread (s : Vec Ideal S32x1 .f32) (r : Fin 32) (k : Fin 8192) :
    broadcastTo S32x8192 s broadcasts_S32x1_S32x8192 (ix2 r k) = s (ix2 r 0) := by
  pointwise

theorem pay_code (v : Vec Ideal S32x8192 .bf16) (r : Fin 32) (k : Fin 8192) :
    k0_pay3 v (ix2 r k) = Quant.rowCode (fun k => v (ix2 r k)) k := by
  have hs := pay_scale v r
  unfold Quant.rowCode k0_pay3
  dsimp only
  refine (Quant.code_eq _ _ _ _ _).trans ?_
  rw [wide_apply]
  generalize k0_pay2 v = s at hs ⊢
  rw [spread, hs]

theorem scale_apply (v : Vec Ideal S32x8192 .bf16) (r : Fin 32) :
    out0_2 v (ix2 r 0) = Quant.rowScale (fun k => v (ix2 r k)) := by
  unfold out0_2
  rw [View.canon_unit_zero (S := S32x1) hz, View.ld_unit_zero (S := S32x8192) hz]
  exact pay_scale v r

theorem code_apply (v : Vec Ideal S32x8192 .bf16) (r : Fin 32) (k : Fin 8192) :
    out0_1 v (ix2 r k) = Quant.rowCode (fun k => v (ix2 r k)) k := by
  unfold out0_1
  rw [View.canon_unit_zero (S := S32x8192) hz, View.ld_unit_zero (S := S32x8192) hz]
  exact pay_code v r k

/-! ## The blocks and the whole array -/

/-- Point `t` takes and gives rows 32 t onward. -/
theorem idx_in : ∀ t : Fin cfg0.N, win0_0.index t = ![t.val, 0] ∧ win0_1.index t = ![t.val, 0] ∧ win0_2.index t = ![t.val, 0] :=
  (by decide +kernel : ∀ t : Fin grid0.N, _)

theorem flush1 : ∀ t : Fin cfg0.N, (cfg0.win 1).flush t = true := (by decide +kernel : ∀ t : Fin grid0.N, (cfg0.win 1).flush t = true)

theorem flush2 : ∀ t : Fin cfg0.N, (cfg0.win 2).flush t = true := (by decide +kernel : ∀ t : Fin grid0.N, (cfg0.win 2).flush t = true)

theorem in_blk (c : Dev nD) (t : Fin cfg0.N) (r : Fin 32) (k : Fin 8192) :
    (iblk m c 0 t : Vec Ideal S32x8192 .bf16) (ix2 r k)
      = (V m c main_v0 : Vec Ideal S288x8192 .bf16) (ix2 ⟨32 * t.val + r.val, by have := lt_of_lt_of_eq t.isLt (show cfg0.N = 9 from N_0); omega⟩ k) := by
  have e := (idx_in t).1
  unfold iblk
  rw [View.read_apply]
  show (V m c main_v0 : Vec Ideal S288x8192 .bf16) _ = _
  congr 1
  funext a
  apply Fin.ext
  match a with
  | ⟨0, _⟩ => show win0_0.index t 0 * 32 + 1 * r.val = 32 * t.val + r.val; rw [e]; simp; omega
  | ⟨1, _⟩ => show win0_0.index t 1 * 8192 + 1 * k.val = k.val; rw [e]; simp

/-- The host's reshape of the argument to rows. -/
theorem V_v (c : Dev nD) (h : S72x4x8192.ShapeCasts S288x8192) :
    (V m c main_v0 : Vec Ideal S288x8192 .bf16) = shapeCast S288x8192 (m ((c : Thread nD τ).loc main_arg0) : Vec Ideal S72x4x8192 .bf16) h := by
  unfold V hostOps0
  after_results
  rfl

set_option maxRecDepth 20000 in
theorem codes_at (c : Dev nD) (t : Fin cfg0.N) (r : Fin 32) (k : Fin 8192) :
    ((dats m 0 c).arrAt 1 cfg0.N : Vec Ideal S288x8192 .i8) (ix2 ⟨32 * t.val + r.val, by have := lt_of_lt_of_eq t.isLt (show cfg0.N = 9 from N_0); omega⟩ k)
      = Quant.rowCode (fun k => (iblk m c 0 t : Vec Ideal S32x8192 .bf16) (ix2 r k)) k := by
  have e := (idx_in t).2.1
  have hb := congrFun (Value.blocks1 m c t (flush1 t)) (ix2 r k)
  rw [Value.flushed1, View.read_apply] at hb
  have hi : (((cfg0.win 1).blk t).view.emb (ix2 r k) : S288x8192.Idx)
      = ix2 ⟨32 * t.val + r.val, by have := lt_of_lt_of_eq t.isLt (show cfg0.N = 9 from N_0); omega⟩ k := by
    funext a
    apply Fin.ext
    match a with
    | ⟨0, _⟩ => show win0_1.index t 0 * 32 + 1 * r.val = 32 * t.val + r.val; rw [e]; simp; omega
    | ⟨1, _⟩ => show win0_1.index t 1 * 8192 + 1 * k.val = k.val; rw [e]; simp
  have hb' : ((dats m 0 c).arrAt 1 cfg0.N : Vec Ideal S288x8192 .i8) (((cfg0.win 1).blk t).view.emb (ix2 r k))
      = (out0_1 (iblk m c 0 t : Vec Ideal S32x8192 .bf16) : Vec Ideal S32x8192 .i8) (ix2 r k) := hb
  rw [hi, code_apply (iblk m c 0 t) r k] at hb'
  exact hb'

theorem scales_at (c : Dev nD) (t : Fin cfg0.N) (r : Fin 32) :
    ((dats m 0 c).arrAt 2 cfg0.N : Vec Ideal S288x1 .f32) (ix2 ⟨32 * t.val + r.val, by have := lt_of_lt_of_eq t.isLt (show cfg0.N = 9 from N_0); omega⟩ 0)
      = Quant.rowScale (fun k => (iblk m c 0 t : Vec Ideal S32x8192 .bf16) (ix2 r k)) := by
  have e := (idx_in t).2.2
  have hb := congrFun (Value.blocks2 m c t (flush2 t)) (ix2 r 0)
  rw [Value.flushed2, View.read_apply] at hb
  have hi : (((cfg0.win 2).blk t).view.emb (ix2 r 0) : S288x1.Idx)
      = ix2 ⟨32 * t.val + r.val, by have := lt_of_lt_of_eq t.isLt (show cfg0.N = 9 from N_0); omega⟩ 0 := by
    funext a
    apply Fin.ext
    match a with
    | ⟨0, _⟩ => show win0_2.index t 0 * 32 + 1 * r.val = 32 * t.val + r.val; rw [e]; simp; omega
    | ⟨1, _⟩ => show win0_2.index t 1 * 1 + 1 * 0 = 0; rw [e]; simp
  have hb' : ((dats m 0 c).arrAt 2 cfg0.N : Vec Ideal S288x1 .f32) (((cfg0.win 2).blk t).view.emb (ix2 r 0))
      = (out0_2 (iblk m c 0 t : Vec Ideal S32x8192 .bf16) : Vec Ideal S32x1 .f32) (ix2 r 0) := hb
  rw [hi, scale_apply (iblk m c 0 t) r] at hb'
  exact hb'

/-- The point that holds row `r`, and the row's place in its block. -/
theorem split_row (r : Fin 288) : ∃ (t : Fin cfg0.N) (s : Fin 32), ∀ h, (⟨32 * t.val + s.val, h⟩ : Fin 288) = r := by
  have hN : cfg0.N = 9 := N_0
  exact ⟨⟨r.val / 32, by omega⟩, ⟨r.val % 32, by omega⟩, fun h => Fin.ext (by dsimp only; omega)⟩

theorem codes_apply (c : Dev nD) (h : S72x4x8192.ShapeCasts S288x8192) (r : Fin 288) (k : Fin 8192) :
    ((dats m 0 c).arrAt 1 cfg0.N : Vec Ideal S288x8192 .i8) (ix2 r k)
      = Quant.rowCode (fun k => shapeCast S288x8192 (m ((c : Thread nD τ).loc main_arg0) : Vec Ideal S72x4x8192 .bf16) h (ix2 r k)) k := by
  obtain ⟨t, s, e⟩ := split_row r
  have hb := codes_at m c t s k
  simp only [in_blk, e, V_v m c h] at hb
  exact hb

theorem scales_apply (c : Dev nD) (h : S72x4x8192.ShapeCasts S288x8192) (r : Fin 288) :
    ((dats m 0 c).arrAt 2 cfg0.N : Vec Ideal S288x1 .f32) (ix2 r 0)
      = Quant.rowScale (fun k => shapeCast S288x8192 (m ((c : Thread nD τ).loc main_arg0) : Vec Ideal S72x4x8192 .bf16) h (ix2 r k)) := by
  obtain ⟨t, s, e⟩ := split_row r
  have hb := scales_at m c t s
  simp only [in_blk, e, V_v m c h] at hb
  exact hb

end Cert.Proof.XQuantKernel

end
-- ==== Proof.XQuantRef.lean ====
module

public import proofs.«01_k».proof.Proof.Gen.XQuantRefIdeal.Value
public import proofs.«01_k».proof.Proof.Quant

@[expose] public section

noncomputable section

namespace Cert.Proof.XQuantRef

open Cert.XQuantRefIdeal Cert.XQuantRefIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The one grid point. -/
def t₀ : Fin cfg0.N := ⟨0, by decide⟩

theorem wide_apply (v : Vec Ideal S288x8192 .bf16) (r : Fin 288) (k : Fin 8192) : k0_pay1 v (ix2 r k) = v (ix2 r k) := by
  pointwise [k0_pay1]

theorem pay_scale (v : Vec Ideal S288x8192 .bf16) (r : Fin 288) :
    k0_pay2 v (ix2 r 0) = Quant.rowScale (fun k => v (ix2 r k)) := by
  unfold k0_pay2
  dsimp only
  rw [show multiReduction (F := Ideal) .maximumf [1] S288 (absf (k0_pay1 v)) 0xFF800000#32 reduces_S288x8192_S288 (.inl rfl) rfl
    = fun j => Quant.rowMax (fun k => (k0_pay1 v) (ix2 (j 0) k)) from Quant.rowMax_eq (k0_pay1 v) _ _ _]
  unfold Quant.rowScale
  pointwise [wide_apply]

theorem spread (s : Vec Ideal S288x1 .f32) (r : Fin 288) (k : Fin 8192) :
    broadcastTo S288x8192 s broadcasts_S288x1_S288x8192 (ix2 r k) = s (ix2 r 0) := by
  pointwise

theorem pay_code (v : Vec Ideal S288x8192 .bf16) (r : Fin 288) (k : Fin 8192) :
    k0_pay3 v (ix2 r k) = Quant.rowCode (fun k => v (ix2 r k)) k := by
  have hs := pay_scale v r
  unfold Quant.rowCode k0_pay3
  rw [Quant.sitofp_top, Quant.sitofp_bot]
  dsimp only
  refine (Quant.code_eq _ _ _ _ _).trans ?_
  rw [wide_apply]
  generalize k0_pay2 v = s at hs ⊢
  rw [spread, hs]

theorem scale_apply (v : Vec Ideal S288x8192 .bf16) (r : Fin 288) :
    out0_2 v (ix2 r 0) = Quant.rowScale (fun k => v (ix2 r k)) := by
  unfold out0_2
  rw [View.canon_unit_zero (S := S288x1) hz, View.ld_unit_zero (S := S288x8192) hz]
  exact pay_scale v r

theorem code_apply (v : Vec Ideal S288x8192 .bf16) (r : Fin 288) (k : Fin 8192) :
    out0_1 v (ix2 r k) = Quant.rowCode (fun k => v (ix2 r k)) k := by
  unfold out0_1
  rw [View.canon_unit_zero (S := S288x8192) hz, View.ld_unit_zero (S := S288x8192) hz]
  exact pay_code v r k

theorem value1 (c : Dev nD) : (dats m 0 c).arrAt 1 cfg0.N = out0_1 (V m c main_v0) := by
  have ho := Value.blocks1 m c t₀ (by decide)
  rw [Value.flushed1] at ho
  have hzo : (fun a => (win0_1.index t₀) a * main_v1_0.ty.shape.size a) = fun _ => 0 := funext fun a => by fin_cases a <;> decide
  have hz0 : (fun a => (win0_0.index t₀) a * main_v0.ty.shape.size a) = fun _ => 0 := funext fun a => by fin_cases a <;> decide
  have hro := fun f => Memref.read_access_unit_zero (Elt Ideal) main_v1_0 hzo (fun a => by rw [congrFun hzo a]; simp) f
  have e0 : (iblk m c 0 t₀ : Vec Ideal S288x8192 .bf16) = V m c main_v0 :=
    Memref.read_access_unit_zero (Elt Ideal) main_v0 hz0 (fun a => by rw [congrFun hz0 a]; simp) _
  rw [e0] at ho
  exact (hro _).symm.trans ho

theorem value2 (c : Dev nD) : (dats m 0 c).arrAt 2 cfg0.N = out0_2 (V m c main_v0) := by
  have ho := Value.blocks2 m c t₀ (by decide)
  rw [Value.flushed2] at ho
  have hzo : (fun a => (win0_2.index t₀) a * main_v1_1.ty.shape.size a) = fun _ => 0 := funext fun a => by fin_cases a <;> decide
  have hz0 : (fun a => (win0_0.index t₀) a * main_v0.ty.shape.size a) = fun _ => 0 := funext fun a => by fin_cases a <;> decide
  have hro := fun f => Memref.read_access_unit_zero (Elt Ideal) main_v1_1 hzo (fun a => by rw [congrFun hzo a]; simp) f
  have e0 : (iblk m c 0 t₀ : Vec Ideal S288x8192 .bf16) = V m c main_v0 :=
    Memref.read_access_unit_zero (Elt Ideal) main_v0 hz0 (fun a => by rw [congrFun hz0 a]; simp) _
  rw [e0] at ho
  exact (hro _).symm.trans ho

/-- The host's reshape of the argument to rows. -/
theorem V_v (c : Dev nD) (h : S72x4x8192.ShapeCasts S288x8192) :
    (V m c main_v0 : Vec Ideal S288x8192 .bf16) = shapeCast S288x8192 (m ((c : Thread nD τ).loc main_arg0) : Vec Ideal S72x4x8192 .bf16) h := by
  unfold V hostOps0
  after_results
  rfl

theorem codes_apply (c : Dev nD) (h : S72x4x8192.ShapeCasts S288x8192) (r : Fin 288) (k : Fin 8192) :
    ((dats m 0 c).arrAt 1 cfg0.N : Vec Ideal S288x8192 .i8) (ix2 r k)
      = Quant.rowCode (fun k => shapeCast S288x8192 (m ((c : Thread nD τ).loc main_arg0) : Vec Ideal S72x4x8192 .bf16) h (ix2 r k)) k := by
  rw [value1, code_apply, V_v m c h]

theorem scales_apply (c : Dev nD) (h : S72x4x8192.ShapeCasts S288x8192) (r : Fin 288) :
    ((dats m 0 c).arrAt 2 cfg0.N : Vec Ideal S288x1 .f32) (ix2 r 0)
      = Quant.rowScale (fun k => shapeCast S288x8192 (m ((c : Thread nD τ).loc main_arg0) : Vec Ideal S72x4x8192 .bf16) h (ix2 r k)) := by
  rw [value2, scale_apply, V_v m c h]

end Cert.Proof.XQuantRef

end
-- ==== Proof.XQuant.lean ====
module

public import proofs.«01_k».proof.Defs
public import proofs.«01_k».proof.Proof.XQuantKernel
public import proofs.«01_k».proof.Proof.XQuantRef

@[expose] public section

noncomputable section

namespace Cert.Proof.XQuant

open Idealize.ShloMosaic Idealize.ShloMosaic.TcCoe Idealize.SL.Sem

/-- The blocked quantiser and the plain one give the same codes and the same scales. -/
theorem algebraic : Cert.algebraic_XQuantIdeal_XQuantRefIdeal := by
  intro m g m' g' _ hagree
  refine ⟨fun c => (Cert.XQuantIdeal.Gen.dats m 0 c).arrAt 1 Cert.XQuantIdeal.cfg0.N, fun c => (Cert.XQuantIdeal.Gen.dats m 0 c).arrAt 2 Cert.XQuantIdeal.cfg0.N,
    Cert.XQuantIdeal.Value.run_blocks m g, (θ_run _ _ _).mono (fun r h c => ?_) (Cert.XQuantRefIdeal.Value.run_blocks m' g')⟩
  refine ⟨(h c).1.trans ?_, (h c).2.1.trans ?_, (h c).2.2⟩
  · funext i
    obtain ⟨r, k, rfl⟩ : ∃ (r : Fin 288) (k : Fin 8192), i = ix2 r k := ⟨i 0, i 1, by
      funext a; match a with
      | ⟨0, _⟩ => rfl
      | ⟨1, _⟩ => rfl⟩
    refine (XQuantRef.codes_apply m' c (by decide) r k).trans ?_
    rw [hagree c]
    exact (XQuantKernel.codes_apply m c (by decide) r k).symm
  · funext i
    obtain ⟨r, rfl⟩ : ∃ (r : Fin 288), i = ix2 r 0 := ⟨i 0, by
      funext a; match a with
      | ⟨0, _⟩ => rfl
      | ⟨1, _⟩ => exact Fin.ext (by have := (i 1).isLt; change (i 1).val < 1 at this; show (i 1).val = 0; omega)⟩
    refine (XQuantRef.scales_apply m' c (by decide) r).trans ?_
    rw [hagree c]
    exact (XQuantKernel.scales_apply m c (by decide) r).symm

end Cert.Proof.XQuant

end
-- ==== Proof.Spec.lean ====
module

public import Idealize.ShloMosaic.Lib.Pointwise
public import Idealize.ShloMosaic.Lib.ValueIdx

@[expose] public section

noncomputable section

namespace Cert.Proof.Spec

open Idealize.ShloMosaic

/-- An int8 code as an extended real. -/
def code (b : BitVec 8) : EReal := FloatOps.sitofp (F := Ideal) .bf16 b

/-- Row `r`, column `j` of the scaled product of codes: the sum of the products of the codes, times the product of the
    row's and the column's scale. -/
def w8a8 {K N : ℕ} (x : Fin 288 → Fin K → BitVec 8) (xs : Fin 288 → EReal) (w : Fin K → Fin N → BitVec 8) (ws : Fin N → EReal)
    (r : Fin 288) (j : Fin N) : EReal :=
  (∑ k : Fin K, code (x r k) * code (w k j)) * (xs r * ws j)

/-- The column of the input projection that stands at place `q` of group `g`: 128 columns of q, 128 of k, 512 of v and
    512 of z. -/
def col (g : Fin 24) (q : Fin 1280) : Fin 30816 :=
  if q.val < 128 then ⟨128 * g.val + q.val, by omega⟩
  else if q.val < 256 then ⟨3072 + 128 * g.val + (q.val - 128), by omega⟩
  else if q.val < 768 then ⟨6144 + 512 * g.val + (q.val - 256), by omega⟩
  else ⟨18432 + 512 * g.val + (q.val - 768), by omega⟩

end Cert.Proof.Spec

end
-- ==== Proof.ProjInPay.lean ====
module

public import proofs.«01_k».proof.Proof.Gen.ProjInIdeal.Value
public import proofs.«01_k».proof.Proof.Spec

@[expose] public section

noncomputable section

namespace Cert.Proof.InKernel

open Cert.ProjInIdeal Cert.ProjInIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The payloads of the five stores, at an index -/

section Payloads

variable (x : Vec Ideal S288x8192 .i8) (xs : Vec Ideal S288x1 .f32)

theorem pay1_apply (w : Vec Ideal S8192x256 .i8) (ws : Vec Ideal S1x256 .f32) (r : Fin 288) (q : Fin 256) :
    k0_pay1 xs w ws (k0_pay2 x) (ix3 0 r q)
      = Spec.w8a8 (fun r k => x (ix2 r k)) (fun r => xs (ix2 r 0)) (fun k q => w (ix2 k q)) (fun q => ws (ix2 0 q)) r q := by
  pointwise [k0_pay1, k0_pay2, k0_pay4, k0_pay5, k0_pay6, k0_pay7, k0_pay8, Spec.w8a8, Spec.code]

theorem pay7_apply (w : Vec Ideal S8192x256 .i8) (ws : Vec Ideal S1x256 .f32) (r : Fin 288) (q : Fin 256) :
    k0_pay7 xs w ws (k0_pay2 x) (ix3 0 r q)
      = Spec.w8a8 (fun r k => x (ix2 r k)) (fun r => xs (ix2 r 0)) (fun k q => w (ix2 k q)) (fun q => ws (ix2 0 q)) r q := by
  pointwise [k0_pay1, k0_pay2, k0_pay4, k0_pay5, k0_pay6, k0_pay7, k0_pay8, Spec.w8a8, Spec.code]

theorem pay8_apply (w : Vec Ideal S8192x256 .i8) (ws : Vec Ideal S1x256 .f32) (r : Fin 288) (q : Fin 256) :
    k0_pay8 xs w ws (k0_pay2 x) (ix3 0 r q)
      = Spec.w8a8 (fun r k => x (ix2 r k)) (fun r => xs (ix2 r 0)) (fun k q => w (ix2 k q)) (fun q => ws (ix2 0 q)) r q := by
  pointwise [k0_pay1, k0_pay2, k0_pay4, k0_pay5, k0_pay6, k0_pay7, k0_pay8, Spec.w8a8, Spec.code]

theorem pay6_apply (w : Vec Ideal S8192x256 .i8) (ws : Vec Ideal S1x256 .f32) (r : Fin 288) (q : Fin 256) :
    k0_pay6 (k0_pay4 w (k0_pay2 x)) (k0_pay5 xs ws) (ix3 0 r q)
      = Spec.w8a8 (fun r k => x (ix2 r k)) (fun r => xs (ix2 r 0)) (fun k q => w (ix2 k q)) (fun q => ws (ix2 0 q)) r q := by
  pointwise [k0_pay1, k0_pay2, k0_pay4, k0_pay5, k0_pay6, k0_pay7, k0_pay8, Spec.w8a8, Spec.code]

/-- Two 128-wide pieces side by side. -/
def pair {α : Type} (a b : Fin 128 → α) (q : Fin 256) : α :=
  if h : q.val < 128 then a ⟨q.val, h⟩ else b ⟨q.val - 128, by omega⟩

theorem pay3_apply (wq wk : Vec Ideal S8192x128 .i8) (sq sk : Vec Ideal S1x128 .f32) (r : Fin 288) (q : Fin 256) :
    k0_pay3 xs wq wk sq sk (k0_pay2 x) (ix3 0 r q)
      = Spec.w8a8 (fun r k => x (ix2 r k)) (fun r => xs (ix2 r 0)) (fun k => pair (fun q => wq (ix2 k q)) (fun q => wk (ix2 k q)))
          (pair (fun q => sq (ix2 0 q)) (fun q => sk (ix2 0 q))) r q := by
  unfold pair
  pointwise [k0_pay2, k0_pay3, Spec.w8a8, Spec.code]

end Payloads

end Cert.Proof.InKernel

end
-- ==== Proof.ProjInBlock.lean ====
module

public import proofs.«01_k».proof.Proof.ProjInPay

@[expose] public section

noncomputable section

namespace Cert.Proof.InKernel

open Cert.ProjInIdeal Cert.ProjInIdeal.Gen Idealize.ShloMosaic Idealize.ShloMosaic.TcCoe Idealize.SL.Sem
open Idealize.ShloMosaic.Pipeline (Dat)

/-- Four pieces, 128, 128, 512 and 512 wide, side by side. -/
def join {α : Type} (a b : Fin 128 → α) (c d : Fin 512 → α) (q : Fin 1280) : α :=
  if h : q.val < 128 then a ⟨q.val, h⟩
  else if h : q.val < 256 then b ⟨q.val - 128, by omega⟩
  else if h : q.val < 768 then c ⟨q.val - 256, by omega⟩
  else d ⟨q.val - 768, by omega⟩

/-- One group's block: the scaled products of the codes with the group's four pieces of the weights. -/
def blockAt (x0 : Vec Ideal S288x8192 .i8) (x1 : Vec Ideal S288x1 .f32) (x2 x3 : Vec Ideal S8192x128 .i8) (x4 x5 : Vec Ideal S8192x512 .i8)
    (x6 x7 : Vec Ideal S1x128 .f32) (x8 x9 : Vec Ideal S1x512 .f32) (r : Fin 288) (q : Fin 1280) : EReal :=
  Spec.w8a8 (fun r k => x0 (ix2 r k)) (fun r => x1 (ix2 r 0))
    (fun k => join (fun q => x2 (ix2 k q)) (fun q => x3 (ix2 k q)) (fun q => x4 (ix2 k q)) (fun q => x5 (ix2 k q)))
    (join (fun q => x6 (ix2 0 q)) (fun q => x7 (ix2 0 q)) (fun q => x8 (ix2 0 q)) (fun q => x9 (ix2 0 q))) r q

/-- The same as a block. -/
def blockE (x0 : Vec Ideal S288x8192 .i8) (x1 : Vec Ideal S288x1 .f32) (x2 x3 : Vec Ideal S8192x128 .i8) (x4 x5 : Vec Ideal S8192x512 .i8)
    (x6 x7 : Vec Ideal S1x128 .f32) (x8 x9 : Vec Ideal S1x512 .f32) (y : S1x288x1280.Idx) : EReal :=
  blockAt x0 x1 x2 x3 x4 x5 x6 x7 x8 x9 (y 1) (y 2)

/-- Row `r`, column `j` depends on that column's weights and scale alone. -/
theorem w8a8_col {K N N' : ℕ} (x : Fin 288 → Fin K → BitVec 8) (xs : Fin 288 → EReal) (w : Fin K → Fin N → BitVec 8) (ws : Fin N → EReal)
    (w' : Fin K → Fin N' → BitVec 8) (ws' : Fin N' → EReal) (r : Fin 288) (j : Fin N) (j' : Fin N')
    (hw : ∀ k, w k j = w' k j') (hs : ws j = ws' j') : Spec.w8a8 x xs w ws r j = Spec.w8a8 x xs w' ws' r j' := by
  unfold Spec.w8a8
  simp only [hw, hs]

/-- A load of 256 columns at an offset, at an index. -/
theorem ld_cols (off : ℕ) (Y : Vec Ideal S8192x512 .i8) (inb) (k : Fin 8192) (q : Fin 256) (h : off + q.val < 512) :
    View.ld (e' := .i8) Y (Rect.unit (s := S8192x512) ![0, off] S8192x256.size inb) (ix2 k q) = Y (ix2 k ⟨off + q.val, h⟩) := by
  show Y _ = Y _
  congr 1
  funext a
  apply Fin.ext
  match a with
  | ⟨0, _⟩ => show 0 + 1 * k.val = k.val; omega
  | ⟨1, _⟩ => show off + 1 * q.val = off + q.val; omega

theorem ld_row (off : ℕ) (Y : Vec Ideal S1x512 .f32) (inb) (q : Fin 256) (h : off + q.val < 512) :
    View.ld (e' := .f32) Y (Rect.unit (s := S1x512) ![0, off] S1x256.size inb) (ix2 0 q) = Y (ix2 0 ⟨off + q.val, h⟩) := by
  show Y _ = Y _
  congr 1
  funext a
  apply Fin.ext
  match a with
  | ⟨0, _⟩ => rfl
  | ⟨1, _⟩ => show off + 1 * q.val = off + q.val; omega

theorem ex_idx (y : S1x288x256.Idx) : ∃ (r : Fin 288) (q : Fin 256), y = ix3 0 r q := by
  refine ⟨y 1, y 2, funext fun a => ?_⟩
  match a with
  | ⟨0, _⟩ => exact Fin.ext (by have := (y 0).isLt; change (y 0).val < 1 at this; show (y 0).val = 0; omega)
  | ⟨1, _⟩ => rfl
  | ⟨2, _⟩ => rfl

/-- Where a stored piece of 256 columns lands in the block. -/
theorem emb_piece (off : ℕ) (inb) (r : Fin 288) (q : Fin 256) (h : off + q.val < 1280) :
    ((Rect.unit (s := S1x288x1280) ![0, 0, off] S1x288x256.size inb).emb (ix3 0 r q) : S1x288x1280.Idx) = ix3 0 r ⟨off + q.val, h⟩ := by
  funext a
  apply Fin.ext
  match a with
  | ⟨0, _⟩ => rfl
  | ⟨1, _⟩ => show 0 + 1 * r.val = r.val; omega
  | ⟨2, _⟩ => show off + 1 * q.val = off + q.val; omega

section pieces

variable (x0 : Vec Ideal S288x8192 .i8) (x1 : Vec Ideal S288x1 .f32) (x2 x3 : Vec Ideal S8192x128 .i8) (x4 x5 : Vec Ideal S8192x512 .i8)
    (x6 x7 : Vec Ideal S1x128 .f32) (x8 x9 : Vec Ideal S1x512 .f32) (r : Fin 288) (q : Fin 256)

theorem piece_0 (h : 0 + q.val < 1280) : k0_pay3 x1 x2 x3 x6 x7 (k0_pay2 x0) (ix3 0 r q) = blockAt x0 x1 x2 x3 x4 x5 x6 x7 x8 x9 r ⟨0 + q.val, h⟩ := by
  refine (pay3_apply _ _ _ _ _ _ r q).trans ?_
  refine w8a8_col _ _ _ _ _ _ r q _ (fun k => ?_) ?_
  all_goals
    unfold pair join
    simp only [Nat.zero_add]
    have := q.isLt
    split_ifs
    all_goals first | rfl | omega

theorem piece_256 (ib is) (h : 256 + q.val < 1280) :
    k0_pay6 (k0_pay4 (View.ld (e' := .i8) x4 (Rect.unit (s := S8192x512) ![0, 0] S8192x256.size ib)) (k0_pay2 x0)) (k0_pay5 x1 (View.ld (e' := .f32) x8 (Rect.unit (s := S1x512) ![0, 0] S1x256.size is))) (ix3 0 r q) = blockAt x0 x1 x2 x3 x4 x5 x6 x7 x8 x9 r ⟨256 + q.val, h⟩ := by
  have hq := q.isLt
  refine (pay6_apply _ _ _ _ r q).trans ?_
  refine w8a8_col _ _ _ _ _ _ r q _ (fun k => ?_) ?_
  · refine (ld_cols 0 x4 ib k q (by omega)).trans ?_
    unfold join
    dsimp only
    split_ifs
    all_goals first | (exfalso; omega) | skip
    congr 2
    apply Fin.ext
    show 0 + q.val = _
    dsimp only
    omega
  · refine (ld_row 0 x8 is q (by omega)).trans ?_
    unfold join
    dsimp only
    split_ifs
    all_goals first | (exfalso; omega) | skip
    congr 2
    apply Fin.ext
    show 0 + q.val = _
    dsimp only
    omega

theorem piece_512 (ib is) (h : 512 + q.val < 1280) :
    k0_pay7 x1 (View.ld (e' := .i8) x4 (Rect.unit (s := S8192x512) ![0, 256] S8192x256.size ib)) (View.ld (e' := .f32) x8 (Rect.unit (s := S1x512) ![0, 256] S1x256.size is)) (k0_pay2 x0) (ix3 0 r q) = blockAt x0 x1 x2 x3 x4 x5 x6 x7 x8 x9 r ⟨512 + q.val, h⟩ := by
  have hq := q.isLt
  refine (pay7_apply _ _ _ _ r q).trans ?_
  refine w8a8_col _ _ _ _ _ _ r q _ (fun k => ?_) ?_
  · refine (ld_cols 256 x4 ib k q (by omega)).trans ?_
    unfold join
    dsimp only
    split_ifs
    all_goals first | (exfalso; omega) | skip
    congr 2
    apply Fin.ext
    show 256 + q.val = _
    dsimp only
    omega
  · refine (ld_row 256 x8 is q (by omega)).trans ?_
    unfold join
    dsimp only
    split_ifs
    all_goals first | (exfalso; omega) | skip
    congr 2
    apply Fin.ext
    show 256 + q.val = _
    dsimp only
    omega

theorem piece_768 (ib is) (h : 768 + q.val < 1280) :
    k0_pay8 x1 (View.ld (e' := .i8) x5 (Rect.unit (s := S8192x512) ![0, 0] S8192x256.size ib)) (View.ld (e' := .f32) x9 (Rect.unit (s := S1x512) ![0, 0] S1x256.size is)) (k0_pay2 x0) (ix3 0 r q) = blockAt x0 x1 x2 x3 x4 x5 x6 x7 x8 x9 r ⟨768 + q.val, h⟩ := by
  have hq := q.isLt
  refine (pay8_apply _ _ _ _ r q).trans ?_
  refine w8a8_col _ _ _ _ _ _ r q _ (fun k => ?_) ?_
  · refine (ld_cols 0 x5 ib k q (by omega)).trans ?_
    unfold join
    dsimp only
    split_ifs
    all_goals first | (exfalso; omega) | skip
    congr 2
    apply Fin.ext
    show 0 + q.val = _
    dsimp only
    omega
  · refine (ld_row 0 x9 is q (by omega)).trans ?_
    unfold join
    dsimp only
    split_ifs
    all_goals first | (exfalso; omega) | skip
    congr 2
    apply Fin.ext
    show 0 + q.val = _
    dsimp only
    omega

theorem piece_1024 (ib is) (h : 1024 + q.val < 1280) :
    k0_pay1 x1 (View.ld (e' := .i8) x5 (Rect.unit (s := S8192x512) ![0, 256] S8192x256.size ib)) (View.ld (e' := .f32) x9 (Rect.unit (s := S1x512) ![0, 256] S1x256.size is)) (k0_pay2 x0) (ix3 0 r q) = blockAt x0 x1 x2 x3 x4 x5 x6 x7 x8 x9 r ⟨1024 + q.val, h⟩ := by
  have hq := q.isLt
  refine (pay1_apply _ _ _ _ r q).trans ?_
  refine w8a8_col _ _ _ _ _ _ r q _ (fun k => ?_) ?_
  · refine (ld_cols 256 x5 ib k q (by omega)).trans ?_
    unfold join
    dsimp only
    split_ifs
    all_goals first | (exfalso; omega) | skip
    congr 2
    apply Fin.ext
    show 256 + q.val = _
    dsimp only
    omega
  · refine (ld_row 256 x9 is q (by omega)).trans ?_
    unfold join
    dsimp only
    split_ifs
    all_goals first | (exfalso; omega) | skip
    congr 2
    apply Fin.ext
    show 256 + q.val = _
    dsimp only
    omega

theorem store_0 (inb) (y : S1x288x256.Idx) :
    (k0_pay3 x1 x2 x3 x6 x7 (k0_pay2 x0) : Vec Ideal S1x288x256 .bf16) y
      = blockE x0 x1 x2 x3 x4 x5 x6 x7 x8 x9 ((Rect.unit (s := S1x288x1280) ![0, 0, 0] S1x288x256.size inb).emb y) := by
  obtain ⟨r, q, rfl⟩ := ex_idx y
  have hq := q.isLt
  rw [piece_0 x0 x1 x2 x3 x4 x5 x6 x7 x8 x9 r q (by omega), emb_piece 0 inb r q (by omega)]
  rfl

theorem store_256 ib is (inb) (y : S1x288x256.Idx) :
    (k0_pay6 (k0_pay4 (View.ld (e' := .i8) x4 (Rect.unit (s := S8192x512) ![0, 0] S8192x256.size ib)) (k0_pay2 x0)) (k0_pay5 x1 (View.ld (e' := .f32) x8 (Rect.unit (s := S1x512) ![0, 0] S1x256.size is))) : Vec Ideal S1x288x256 .bf16) y
      = blockE x0 x1 x2 x3 x4 x5 x6 x7 x8 x9 ((Rect.unit (s := S1x288x1280) ![0, 0, 256] S1x288x256.size inb).emb y) := by
  obtain ⟨r, q, rfl⟩ := ex_idx y
  have hq := q.isLt
  rw [piece_256 x0 x1 x2 x3 x4 x5 x6 x7 x8 x9 r q ib is (by omega), emb_piece 256 inb r q (by omega)]
  rfl

theorem store_512 ib is (inb) (y : S1x288x256.Idx) :
    (k0_pay7 x1 (View.ld (e' := .i8) x4 (Rect.unit (s := S8192x512) ![0, 256] S8192x256.size ib)) (View.ld (e' := .f32) x8 (Rect.unit (s := S1x512) ![0, 256] S1x256.size is)) (k0_pay2 x0) : Vec Ideal S1x288x256 .bf16) y
      = blockE x0 x1 x2 x3 x4 x5 x6 x7 x8 x9 ((Rect.unit (s := S1x288x1280) ![0, 0, 512] S1x288x256.size inb).emb y) := by
  obtain ⟨r, q, rfl⟩ := ex_idx y
  have hq := q.isLt
  rw [piece_512 x0 x1 x2 x3 x4 x5 x6 x7 x8 x9 r q ib is (by omega), emb_piece 512 inb r q (by omega)]
  rfl

theorem store_768 ib is (inb) (y : S1x288x256.Idx) :
    (k0_pay8 x1 (View.ld (e' := .i8) x5 (Rect.unit (s := S8192x512) ![0, 0] S8192x256.size ib)) (View.ld (e' := .f32) x9 (Rect.unit (s := S1x512) ![0, 0] S1x256.size is)) (k0_pay2 x0) : Vec Ideal S1x288x256 .bf16) y
      = blockE x0 x1 x2 x3 x4 x5 x6 x7 x8 x9 ((Rect.unit (s := S1x288x1280) ![0, 0, 768] S1x288x256.size inb).emb y) := by
  obtain ⟨r, q, rfl⟩ := ex_idx y
  have hq := q.isLt
  rw [piece_768 x0 x1 x2 x3 x4 x5 x6 x7 x8 x9 r q ib is (by omega), emb_piece 768 inb r q (by omega)]
  rfl

theorem store_1024 ib is (inb) (y : S1x288x256.Idx) :
    (k0_pay1 x1 (View.ld (e' := .i8) x5 (Rect.unit (s := S8192x512) ![0, 256] S8192x256.size ib)) (View.ld (e' := .f32) x9 (Rect.unit (s := S1x512) ![0, 256] S1x256.size is)) (k0_pay2 x0) : Vec Ideal S1x288x256 .bf16) y
      = blockE x0 x1 x2 x3 x4 x5 x6 x7 x8 x9 ((Rect.unit (s := S1x288x1280) ![0, 0, 1024] S1x288x256.size inb).emb y) := by
  obtain ⟨r, q, rfl⟩ := ex_idx y
  have hq := q.isLt
  rw [piece_1024 x0 x1 x2 x3 x4 x5 x6 x7 x8 x9 r q ib is (by omega), emb_piece 1024 inb r q (by omega)]
  rfl

end pieces

theorem out_A (c : Dev nD) (i : grid0.Coords) (a1 : Memref sig .tc .vmem S288x8192 .i8) (h1 : a1.IsWhole) (a2 : Memref sig .tc .vmem S288x1 .f32) (h2 : a2.IsWhole) (a3 : Memref sig .tc .vmem S8192x128 .i8) (h3 : a3.IsWhole) (a4 : Memref sig .tc .vmem S8192x128 .i8) (h4 : a4.IsWhole) (a5 : Memref sig .tc .vmem S8192x512 .i8) (h5 : a5.IsWhole) (a6 : Memref sig .tc .vmem S8192x512 .i8) (h6 : a6.IsWhole) (a7 : Memref sig .tc .vmem S1x128 .f32) (h7 : a7.IsWhole) (a8 : Memref sig .tc .vmem S1x128 .f32) (h8 : a8.IsWhole) (a9 : Memref sig .tc .vmem S1x512 .f32) (h9 : a9.IsWhole) (a10 : Memref sig .tc .vmem S1x512 .f32) (h10 : a10.IsWhole) (a11 : Memref sig .tc .vmem S1x288x1280 .bf16) (h11 : a11.IsWhole) (a12 : Memref sig .tc .vmem S288x8192 .bf16) (h12 : a12.IsWhole) (hc : cond0_0 i)
    (x0 : Vec Ideal S288x8192 .i8) (x1 : Vec Ideal S288x1 .f32) (x2 : Vec Ideal S8192x128 .i8) (x3 : Vec Ideal S8192x128 .i8) (x4 : Vec Ideal S8192x512 .i8) (x5 : Vec Ideal S8192x512 .i8) (x6 : Vec Ideal S1x128 .f32) (x7 : Vec Ideal S1x128 .f32) (x8 : Vec Ideal S1x512 .f32) (x9 : Vec Ideal S1x512 .f32) (r : Fin 288) (q : Fin 1280) :
    out0_A_10 c i a1 h1 a2 h2 a3 h3 a4 h4 a5 h5 a6 h6 a7 h7 a8 h8 a9 h9 a10 h10 a11 h11 a12 h12 hc x0 x1 x2 x3 x4 x5 x6 x7 x8 x9 (ix3 0 r q) = blockAt x0 x1 x2 x3 x4 x5 x6 x7 x8 x9 r q := by
  unfold out0_A_10
  have hcov := cover0_A_10 c i a1 h1 a2 h2 a3 h3 a4 h4 a5 h5 a6 h6 a7 h7 a8 h8 a9 h9 a10 h10 a11 h11 a12 h12 hc x0 x1 x2 x3 x4 x5 x6 x7 x8 x9
  rw [View.read_writes_eq_canon _ _ _ hcov]
  refine (View.canon_apply_of_pieces (blockE x0 x1 x2 x3 x4 x5 x6 x7 x8 x9) _ ?_ _ (hcov _)).trans rfl
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h12.read_unread, View.ld_unit_zero (S := S288x8192) hz,
    View.ld_unit_zero (S := S288x1) hz, View.ld_unit_zero (S := S8192x128) hz, View.ld_unit_zero (S := S1x128) hz, View.readCov_unit_zero (S := S288x8192) _ hz]
  intro pc hpc
  simp only [List.mem_cons, List.not_mem_nil, or_false] at hpc
  rcases hpc with rfl | rfl | rfl | rfl | rfl
  · exact store_1024 x0 x1 x2 x3 x4 x5 x6 x7 x8 x9 _ _ inb_S1x288x1280_S1x288x256_0_0_1024
  · exact store_768 x0 x1 x2 x3 x4 x5 x6 x7 x8 x9 _ _ inb_S1x288x1280_S1x288x256_0_0_768
  · exact store_512 x0 x1 x2 x3 x4 x5 x6 x7 x8 x9 _ _ inb_S1x288x1280_S1x288x256_0_0_512
  · exact store_256 x0 x1 x2 x3 x4 x5 x6 x7 x8 x9 _ _ inb_S1x288x1280_S1x288x256_0_0_256
  · exact store_0 x0 x1 x2 x3 x4 x5 x6 x7 x8 x9 inb_S1x288x1280_S1x288x256_0_0_0

theorem out_B (c : Dev nD) (i : grid0.Coords) (a1 : Memref sig .tc .vmem S288x8192 .i8) (h1 : a1.IsWhole) (a2 : Memref sig .tc .vmem S288x1 .f32) (h2 : a2.IsWhole) (a3 : Memref sig .tc .vmem S8192x128 .i8) (h3 : a3.IsWhole) (a4 : Memref sig .tc .vmem S8192x128 .i8) (h4 : a4.IsWhole) (a5 : Memref sig .tc .vmem S8192x512 .i8) (h5 : a5.IsWhole) (a6 : Memref sig .tc .vmem S8192x512 .i8) (h6 : a6.IsWhole) (a7 : Memref sig .tc .vmem S1x128 .f32) (h7 : a7.IsWhole) (a8 : Memref sig .tc .vmem S1x128 .f32) (h8 : a8.IsWhole) (a9 : Memref sig .tc .vmem S1x512 .f32) (h9 : a9.IsWhole) (a10 : Memref sig .tc .vmem S1x512 .f32) (h10 : a10.IsWhole) (a11 : Memref sig .tc .vmem S1x288x1280 .bf16) (h11 : a11.IsWhole) (a12 : Memref sig .tc .vmem S288x8192 .bf16) (h12 : a12.IsWhole) (hc : ¬cond0_0 i)
    (x0 : Vec Ideal S288x8192 .i8) (x1 : Vec Ideal S288x1 .f32) (x2 : Vec Ideal S8192x128 .i8) (x3 : Vec Ideal S8192x128 .i8) (x4 : Vec Ideal S8192x512 .i8) (x5 : Vec Ideal S8192x512 .i8) (x6 : Vec Ideal S1x128 .f32) (x7 : Vec Ideal S1x128 .f32) (x8 : Vec Ideal S1x512 .f32) (x9 : Vec Ideal S1x512 .f32) (r : Fin 288) (q : Fin 1280) :
    out0_B_10 c i a1 h1 a2 h2 a3 h3 a4 h4 a5 h5 a6 h6 a7 h7 a8 h8 a9 h9 a10 h10 a11 h11 a12 h12 hc x0 x1 x2 x3 x4 x5 x6 x7 x8 x9 (k0_pay2 x0) (ix3 0 r q) = blockAt x0 x1 x2 x3 x4 x5 x6 x7 x8 x9 r q := by
  unfold out0_B_10
  have hcov := cover0_B_10 c i a1 h1 a2 h2 a3 h3 a4 h4 a5 h5 a6 h6 a7 h7 a8 h8 a9 h9 a10 h10 a11 h11 a12 h12 hc x0 x1 x2 x3 x4 x5 x6 x7 x8 x9 (k0_pay2 x0)
  rw [View.read_writes_eq_canon _ _ _ hcov]
  refine (View.canon_apply_of_pieces (blockE x0 x1 x2 x3 x4 x5 x6 x7 x8 x9) _ ?_ _ (hcov _)).trans rfl
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h12.read_unread, View.ld_unit_zero (S := S288x8192) hz,
    View.ld_unit_zero (S := S288x1) hz, View.ld_unit_zero (S := S8192x128) hz, View.ld_unit_zero (S := S1x128) hz, View.readCov_unit_zero (S := S288x8192) _ hz]
  intro pc hpc
  simp only [List.mem_cons, List.not_mem_nil, or_false] at hpc
  rcases hpc with rfl | rfl | rfl | rfl | rfl
  · exact store_1024 x0 x1 x2 x3 x4 x5 x6 x7 x8 x9 _ _ inb_S1x288x1280_S1x288x256_0_0_1024
  · exact store_768 x0 x1 x2 x3 x4 x5 x6 x7 x8 x9 _ _ inb_S1x288x1280_S1x288x256_0_0_768
  · exact store_512 x0 x1 x2 x3 x4 x5 x6 x7 x8 x9 _ _ inb_S1x288x1280_S1x288x256_0_0_512
  · exact store_256 x0 x1 x2 x3 x4 x5 x6 x7 x8 x9 _ _ inb_S1x288x1280_S1x288x256_0_0_256
  · exact store_0 x0 x1 x2 x3 x4 x5 x6 x7 x8 x9 inb_S1x288x1280_S1x288x256_0_0_0

end Cert.Proof.InKernel

end
-- ==== Proof.ProjInKernel.lean ====
module

public import proofs.«01_k».proof.Proof.ProjInBlock

@[expose] public section

noncomputable section

namespace Cert.Proof.InKernel

open Cert.ProjInIdeal Cert.ProjInIdeal.Gen Idealize.ShloMosaic Idealize.ShloMosaic.TcCoe Idealize.SL.Sem
open Idealize.ShloMosaic.Pipeline (Dat)

/-- The first point leaves the codes as bf16 in the scratch. -/
theorem scr_A (c : Dev nD) (i : grid0.Coords) (a1 : Memref sig .tc .vmem S288x8192 .i8) (h1 : a1.IsWhole) (a2 : Memref sig .tc .vmem S288x1 .f32) (h2 : a2.IsWhole) (a3 : Memref sig .tc .vmem S8192x128 .i8) (h3 : a3.IsWhole) (a4 : Memref sig .tc .vmem S8192x128 .i8) (h4 : a4.IsWhole) (a5 : Memref sig .tc .vmem S8192x512 .i8) (h5 : a5.IsWhole) (a6 : Memref sig .tc .vmem S8192x512 .i8) (h6 : a6.IsWhole) (a7 : Memref sig .tc .vmem S1x128 .f32) (h7 : a7.IsWhole) (a8 : Memref sig .tc .vmem S1x128 .f32) (h8 : a8.IsWhole) (a9 : Memref sig .tc .vmem S1x512 .f32) (h9 : a9.IsWhole) (a10 : Memref sig .tc .vmem S1x512 .f32) (h10 : a10.IsWhole) (a11 : Memref sig .tc .vmem S1x288x1280 .bf16) (h11 : a11.IsWhole) (a12 : Memref sig .tc .vmem S288x8192 .bf16) (h12 : a12.IsWhole) (hc : cond0_0 i)
    (x0 : Vec Ideal S288x8192 .i8) (x1 : Vec Ideal S288x1 .f32) (x2 : Vec Ideal S8192x128 .i8) (x3 : Vec Ideal S8192x128 .i8) (x4 : Vec Ideal S8192x512 .i8) (x5 : Vec Ideal S8192x512 .i8) (x6 : Vec Ideal S1x128 .f32) (x7 : Vec Ideal S1x128 .f32) (x8 : Vec Ideal S1x512 .f32) (x9 : Vec Ideal S1x512 .f32) :
    sout0_A_0 c i a1 h1 a2 h2 a3 h3 a4 h4 a5 h5 a6 h6 a7 h7 a8 h8 a9 h9 a10 h10 a11 h11 a12 h12 hc x0 x1 x2 x3 x4 x5 x6 x7 x8 x9 = k0_pay2 x0 := by
  unfold sout0_A_0
  rw [View.read_writes_eq_canon _ _ _ (scover0_A_0 c i a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  sl_unfold_words
  rw [View.canon_unit_zero (S := S288x8192) hz]
  simp only [View.readAt_eq_ld, h1.read_unread, View.ld_unit_zero (S := S288x8192) hz]

variable (m : (ℓ : Loc nD τ sig) → Buf (Elt Ideal) ℓ)

/-- Which block each window takes at point `t`. -/
theorem idx_in : ∀ t : Fin cfg0.N, win0_0.index t = ![0, 0] ∧ win0_1.index t = ![0, 0] ∧ win0_2.index t = ![0, t.val]
    ∧ win0_3.index t = ![0, 24 + t.val] ∧ win0_4.index t = ![0, 12 + t.val] ∧ win0_5.index t = ![0, 36 + t.val]
    ∧ win0_6.index t = ![0, t.val] ∧ win0_7.index t = ![0, 24 + t.val] ∧ win0_8.index t = ![0, 12 + t.val]
    ∧ win0_9.index t = ![0, 36 + t.val] :=
  (by decide +kernel : ∀ t : Fin grid0.N, _)

theorem codes_blk (c : Dev nD) (t : Fin cfg0.N) :
    (iblk m c 0 t : Vec Ideal S288x8192 .i8) = m ((c : Thread nD τ).loc main_arg0) := by
  have e := (idx_in t).1
  have hz0 : (fun a => (win0_0.index t) a * main_arg0.ty.shape.size a) = fun _ => 0 := funext fun a => by
    rw [e]; fin_cases a <;> rfl
  rw [← V_main_arg0 m c]
  exact Memref.read_access_unit_zero (Elt Ideal) main_arg0 hz0 (fun a => by rw [congrFun hz0 a]; simp) _

theorem scales_blk (c : Dev nD) (t : Fin cfg0.N) :
    (iblk m c 1 t : Vec Ideal S288x1 .f32) = m ((c : Thread nD τ).loc main_arg1) := by
  have e := (idx_in t).2.1
  have hz0 : (fun a => (win0_1.index t) a * main_arg1.ty.shape.size a) = fun _ => 0 := funext fun a => by
    rw [e]; fin_cases a <;> rfl
  rw [← V_main_arg1 m c]
  exact Memref.read_access_unit_zero (Elt Ideal) main_arg1 hz0 (fun a => by rw [congrFun hz0 a]; simp) _

theorem row_of_list (x : Vec Ideal S30816 .f32) (h : S30816.ShapeCasts S1x30816) (q : Fin 30816) :
    shapeCast S1x30816 x h (ix2 0 q) = x (ix1 q) := by
  pointwise

/-- The host's reshape of the column scales to one row. -/
theorem V_ws (c : Dev nD) (h : S30816.ShapeCasts S1x30816) :
    (V m c main_v0 : Vec Ideal S1x30816 .f32) = shapeCast S1x30816 (m ((c : Thread nD τ).loc main_arg3) : Vec Ideal S30816 .f32) h := by
  unfold V hostOps0
  after_results
  rfl

theorem blk_2 (c : Dev nD) (t : Fin cfg0.N) (k : Fin 8192) (j : Fin 128) :
    (X0_2 m c t : Vec Ideal S8192x128 .i8) (ix2 k j)
      = (m ((c : Thread nD τ).loc main_arg2) : Vec Ideal S8192x30816 .i8) (ix2 k ⟨128 * t.val + j.val, by have := lt_of_lt_of_eq t.isLt (show cfg0.N = 24 from N_0); omega⟩) := by
  have e := (idx_in t).2.2.1
  rw [← V_main_arg2 m c]
  unfold X0_2 Pipeline.Window.fill
  rw [dif_pos (moved0_2 t _)]
  unfold iblk
  rw [View.read_apply]
  show V m c main_arg2 _ = V m c main_arg2 _
  congr 1
  funext a
  apply Fin.ext
  match a with
  | ⟨0, _⟩ => show win0_2.index t 0 * 8192 + 1 * k.val = k.val; rw [e]; simp
  | ⟨1, _⟩ => show win0_2.index t 1 * 128 + 1 * j.val = 128 * t.val + j.val; rw [e]; simp; omega

theorem blk_3 (c : Dev nD) (t : Fin cfg0.N) (k : Fin 8192) (j : Fin 128) :
    (X0_3 m c t : Vec Ideal S8192x128 .i8) (ix2 k j)
      = (m ((c : Thread nD τ).loc main_arg2) : Vec Ideal S8192x30816 .i8) (ix2 k ⟨3072 + 128 * t.val + j.val, by have := lt_of_lt_of_eq t.isLt (show cfg0.N = 24 from N_0); omega⟩) := by
  have e := (idx_in t).2.2.2.1
  rw [← V_main_arg2 m c]
  unfold X0_3 Pipeline.Window.fill
  rw [dif_pos (moved0_3 t _)]
  unfold iblk
  rw [View.read_apply]
  show V m c main_arg2 _ = V m c main_arg2 _
  congr 1
  funext a
  apply Fin.ext
  match a with
  | ⟨0, _⟩ => show win0_3.index t 0 * 8192 + 1 * k.val = k.val; rw [e]; simp
  | ⟨1, _⟩ => show win0_3.index t 1 * 128 + 1 * j.val = 3072 + 128 * t.val + j.val; rw [e]; simp; omega

theorem blk_4 (c : Dev nD) (t : Fin cfg0.N) (k : Fin 8192) (j : Fin 512) :
    (X0_4 m c t : Vec Ideal S8192x512 .i8) (ix2 k j)
      = (m ((c : Thread nD τ).loc main_arg2) : Vec Ideal S8192x30816 .i8) (ix2 k ⟨6144 + 512 * t.val + j.val, by have := lt_of_lt_of_eq t.isLt (show cfg0.N = 24 from N_0); omega⟩) := by
  have e := (idx_in t).2.2.2.2.1
  rw [← V_main_arg2 m c]
  unfold X0_4 Pipeline.Window.fill
  rw [dif_pos (moved0_4 t _)]
  unfold iblk
  rw [View.read_apply]
  show V m c main_arg2 _ = V m c main_arg2 _
  congr 1
  funext a
  apply Fin.ext
  match a with
  | ⟨0, _⟩ => show win0_4.index t 0 * 8192 + 1 * k.val = k.val; rw [e]; simp
  | ⟨1, _⟩ => show win0_4.index t 1 * 512 + 1 * j.val = 6144 + 512 * t.val + j.val; rw [e]; simp; omega

theorem blk_5 (c : Dev nD) (t : Fin cfg0.N) (k : Fin 8192) (j : Fin 512) :
    (X0_5 m c t : Vec Ideal S8192x512 .i8) (ix2 k j)
      = (m ((c : Thread nD τ).loc main_arg2) : Vec Ideal S8192x30816 .i8) (ix2 k ⟨18432 + 512 * t.val + j.val, by have := lt_of_lt_of_eq t.isLt (show cfg0.N = 24 from N_0); omega⟩) := by
  have e := (idx_in t).2.2.2.2.2.1
  rw [← V_main_arg2 m c]
  unfold X0_5 Pipeline.Window.fill
  rw [dif_pos (moved0_5 t _)]
  unfold iblk
  rw [View.read_apply]
  show V m c main_arg2 _ = V m c main_arg2 _
  congr 1
  funext a
  apply Fin.ext
  match a with
  | ⟨0, _⟩ => show win0_5.index t 0 * 8192 + 1 * k.val = k.val; rw [e]; simp
  | ⟨1, _⟩ => show win0_5.index t 1 * 512 + 1 * j.val = 18432 + 512 * t.val + j.val; rw [e]; simp; omega

theorem blk_6 (c : Dev nD) (t : Fin cfg0.N) (j : Fin 128) :
    (X0_6 m c t : Vec Ideal S1x128 .f32) (ix2 0 j)
      = (m ((c : Thread nD τ).loc main_arg3) : Vec Ideal S30816 .f32) (ix1 ⟨128 * t.val + j.val, by have := lt_of_lt_of_eq t.isLt (show cfg0.N = 24 from N_0); omega⟩) := by
  have e := (idx_in t).2.2.2.2.2.2.1
  have hN := lt_of_lt_of_eq t.isLt (show cfg0.N = 24 from N_0)
  refine Eq.trans ?_ ((congrFun (V_ws m c (by decide)) (ix2 0 _)).trans (row_of_list _ _ _))
  unfold X0_6 Pipeline.Window.fill
  rw [dif_pos (moved0_6 t _)]
  unfold iblk
  rw [View.read_apply]
  show (V m c main_v0 : Vec Ideal S1x30816 .f32) _ = _
  congr 1
  funext a
  apply Fin.ext
  match a with
  | ⟨0, _⟩ => show win0_6.index t 0 * 1 + 1 * 0 = 0; rw [e]; simp
  | ⟨1, _⟩ => show win0_6.index t 1 * 128 + 1 * j.val = 128 * t.val + j.val; rw [e]; simp; omega

theorem blk_7 (c : Dev nD) (t : Fin cfg0.N) (j : Fin 128) :
    (X0_7 m c t : Vec Ideal S1x128 .f32) (ix2 0 j)
      = (m ((c : Thread nD τ).loc main_arg3) : Vec Ideal S30816 .f32) (ix1 ⟨3072 + 128 * t.val + j.val, by have := lt_of_lt_of_eq t.isLt (show cfg0.N = 24 from N_0); omega⟩) := by
  have e := (idx_in t).2.2.2.2.2.2.2.1
  have hN := lt_of_lt_of_eq t.isLt (show cfg0.N = 24 from N_0)
  refine Eq.trans ?_ ((congrFun (V_ws m c (by decide)) (ix2 0 _)).trans (row_of_list _ _ _))
  unfold X0_7 Pipeline.Window.fill
  rw [dif_pos (moved0_7 t _)]
  unfold iblk
  rw [View.read_apply]
  show (V m c main_v0 : Vec Ideal S1x30816 .f32) _ = _
  congr 1
  funext a
  apply Fin.ext
  match a with
  | ⟨0, _⟩ => show win0_7.index t 0 * 1 + 1 * 0 = 0; rw [e]; simp
  | ⟨1, _⟩ => show win0_7.index t 1 * 128 + 1 * j.val = 3072 + 128 * t.val + j.val; rw [e]; simp; omega

theorem blk_8 (c : Dev nD) (t : Fin cfg0.N) (j : Fin 512) :
    (X0_8 m c t : Vec Ideal S1x512 .f32) (ix2 0 j)
      = (m ((c : Thread nD τ).loc main_arg3) : Vec Ideal S30816 .f32) (ix1 ⟨6144 + 512 * t.val + j.val, by have := lt_of_lt_of_eq t.isLt (show cfg0.N = 24 from N_0); omega⟩) := by
  have e := (idx_in t).2.2.2.2.2.2.2.2.1
  have hN := lt_of_lt_of_eq t.isLt (show cfg0.N = 24 from N_0)
  refine Eq.trans ?_ ((congrFun (V_ws m c (by decide)) (ix2 0 _)).trans (row_of_list _ _ _))
  unfold X0_8 Pipeline.Window.fill
  rw [dif_pos (moved0_8 t _)]
  unfold iblk
  rw [View.read_apply]
  show (V m c main_v0 : Vec Ideal S1x30816 .f32) _ = _
  congr 1
  funext a
  apply Fin.ext
  match a with
  | ⟨0, _⟩ => show win0_8.index t 0 * 1 + 1 * 0 = 0; rw [e]; simp
  | ⟨1, _⟩ => show win0_8.index t 1 * 512 + 1 * j.val = 6144 + 512 * t.val + j.val; rw [e]; simp; omega

theorem blk_9 (c : Dev nD) (t : Fin cfg0.N) (j : Fin 512) :
    (X0_9 m c t : Vec Ideal S1x512 .f32) (ix2 0 j)
      = (m ((c : Thread nD τ).loc main_arg3) : Vec Ideal S30816 .f32) (ix1 ⟨18432 + 512 * t.val + j.val, by have := lt_of_lt_of_eq t.isLt (show cfg0.N = 24 from N_0); omega⟩) := by
  have e := (idx_in t).2.2.2.2.2.2.2.2.2
  have hN := lt_of_lt_of_eq t.isLt (show cfg0.N = 24 from N_0)
  refine Eq.trans ?_ ((congrFun (V_ws m c (by decide)) (ix2 0 _)).trans (row_of_list _ _ _))
  unfold X0_9 Pipeline.Window.fill
  rw [dif_pos (moved0_9 t _)]
  unfold iblk
  rw [View.read_apply]
  show (V m c main_v0 : Vec Ideal S1x30816 .f32) _ = _
  congr 1
  funext a
  apply Fin.ext
  match a with
  | ⟨0, _⟩ => show win0_9.index t 0 * 1 + 1 * 0 = 0; rw [e]; simp
  | ⟨1, _⟩ => show win0_9.index t 1 * 512 + 1 * j.val = 18432 + 512 * t.val + j.val; rw [e]; simp; omega

/-- What the output block and the scratch hold after point `n`. -/
theorem fold_eq (c : Dev nD) : ∀ (n : ℕ) (h : n < cfg0.N),
    (outsAt0 m c n h).2 = k0_pay2 (m ((c : Thread nD τ).loc main_arg0))
      ∧ ∀ (r : Fin 288) (q : Fin 1280), ((outsAt0 m c n h).1 : Vec Ideal S1x288x1280 .bf16) (ix3 0 r q)
          = blockAt (m ((c : Thread nD τ).loc main_arg0)) (m ((c : Thread nD τ).loc main_arg1)) (X0_2 m c ⟨n, h⟩) (X0_3 m c ⟨n, h⟩) (X0_4 m c ⟨n, h⟩) (X0_5 m c ⟨n, h⟩) (X0_6 m c ⟨n, h⟩) (X0_7 m c ⟨n, h⟩) (X0_8 m c ⟨n, h⟩) (X0_9 m c ⟨n, h⟩) r q
  | 0, h => by
    rw [outsAt0_A m c ⟨0, h⟩ rfl, codes_blk, scales_blk]
    dsimp only
    exact ⟨scr_A _ _ _ _ _ _ _ _ _ _ _ _ _ _ _ _ _ _ _ _ _ _ _ _ _ _ _ _ _ _ _ _ _ _ _ _ _, fun r q => out_A _ _ _ _ _ _ _ _ _ _ _ _ _ _ _ _ _ _ _ _ _ _ _ _ _ _ _ _ _ _ _ _ _ _ _ _ _ r q⟩
  | n + 1, h => by
    have hN : cfg0.N = 24 := N_0
    have hB : ¬(⟨n + 1, h⟩ : Fin cfg0.N).val % 24 = 0 := by dsimp only; omega
    have ih : (outsAt0 m c ((⟨n + 1, h⟩ : Fin cfg0.N).val - 1) (Nat.lt_of_le_of_lt (Nat.sub_le _ _) h)).2
        = k0_pay2 (m ((c : Thread nD τ).loc main_arg0)) := (fold_eq c n (by omega)).1
    rw [outsAt0_B m c ⟨n + 1, h⟩ hB, codes_blk, scales_blk, ih]
    unfold sout0_B_0
    dsimp only
    exact ⟨rfl, fun r q => out_B _ _ _ _ _ _ _ _ _ _ _ _ _ _ _ _ _ _ _ _ _ _ _ _ _ _ _ _ _ _ _ _ _ _ _ _ _ r q⟩

theorem G_apply (c : Dev nD) (g : Fin 24) (r : Fin 288) (q : Fin 1280) :
    (Value.G10 m c : Vec Ideal S24x288x1280 .bf16) (ix3 g r q)
      = Spec.w8a8 (fun r k => (m ((c : Thread nD τ).loc main_arg0) : Vec Ideal S288x8192 .i8) (ix2 r k))
          (fun r => (m ((c : Thread nD τ).loc main_arg1) : Vec Ideal S288x1 .f32) (ix2 r 0))
          (fun k j => (m ((c : Thread nD τ).loc main_arg2) : Vec Ideal S8192x30816 .i8) (ix2 k j))
          (fun j => (m ((c : Thread nD τ).loc main_arg3) : Vec Ideal S30816 .f32) (ix1 j)) r (Spec.col g q) := by
  have hN : cfg0.N = 24 := N_0
  have hp' : Value.pt10Of (ix3 g r q) = g.val := by
    show 1 * (g.val / 1 - 0) + 1 * (r.val / 288 - 0) + 1 * (q.val / 1280 - 0) = _
    omega
  have hp : Value.pt10Of (ix3 g r q) < cfg0.N := by
    rw [hp', hN]; exact g.isLt
  unfold Value.G10
  rw [dif_pos hp, ← Value.outsAt0_sweep m c _ hp]
  have hl : Value.loc10Of (ix3 g r q) = ix3 0 r q := by
    funext a
    apply Fin.ext
    match a with
    | ⟨0, _⟩ => show g.val % 1 = 0; omega
    | ⟨1, _⟩ => show r.val % 288 = r.val; omega
    | ⟨2, _⟩ => show q.val % 1280 = q.val; omega
  rw [hl, (fold_eq m c _ hp).2 r q]
  unfold blockAt
  refine w8a8_col _ _ _ _ _ _ r q _ (fun k => ?_) ?_
  all_goals
    unfold join Spec.col
    split_ifs
    all_goals simp only [blk_2, blk_3, blk_4, blk_5, blk_6, blk_7, blk_8, blk_9, hp']

end Cert.Proof.InKernel

end
-- ==== Proof.ProjInRef.lean ====
module

public import proofs.«01_k».proof.Proof.Gen.ProjInRefIdeal.Value
public import proofs.«01_k».proof.Proof.Spec

@[expose] public section

noncomputable section

namespace Cert.Proof.InRef

open Cert.ProjInRefIdeal Cert.ProjInRefIdeal.Gen Idealize.ShloMosaic Idealize.ShloMosaic.TcCoe Idealize.SL.Sem
open Idealize.ShloMosaic.Pipeline (Dat)

section AnyFloat

variable {F : FTy → Type} [FloatOps F]
variable (m : (ℓ : Loc nD τ sig) → Buf (Elt F) ℓ)

theorem hz3 : (![0, 0, 0] : Fin 3 → Nat) = fun _ => 0 := funext fun a => by fin_cases a <;> rfl

theorem hz : (![0, 0] : Fin 2 → Nat) = fun _ => 0 := funext fun a => by fin_cases a <;> rfl

/-- The one grid point. -/
def t₀ : Fin cfg0.N := ⟨0, by decide⟩

theorem out_eq (x0 : Vec F S288x8192 .i8) (x1 : Vec F S288x1 .f32) (x2 : Vec F S8192x30816 .i8) (x3 : Vec F S1x30816 .f32) :
    out0_4 (F := F) x0 x1 x2 x3 = k0_pay1 x0 x1 x2 x3 := by
  unfold out0_4
  rw [View.canon_unit_zero (S := S24x288x1280) hz3, View.ld_unit_zero (S := S288x8192) hz, View.ld_unit_zero (S := S288x1) hz,
    View.ld_unit_zero (S := S8192x30816) hz, View.ld_unit_zero (S := S1x30816) hz]

/-- The result array after the run is the payload of the arrays as the region finds them. -/
theorem final_value (c : Dev nD) :
    (dats (F := F) m 0 c).arrAt 4 cfg0.N = k0_pay1 (V m c main_arg0) (V m c main_arg1) (V m c main_arg2) (V m c main_v0) := by
  have ho := Value.blocks4 m c t₀ (by decide)
  rw [Value.flushed4, out_eq] at ho
  have hz4 : (fun a => (win0_4.index t₀) a * main_v1.ty.shape.size a) = fun _ => 0 := funext fun a => by fin_cases a <;> decide
  have hz0 : (fun a => (win0_0.index t₀) a * main_arg0.ty.shape.size a) = fun _ => 0 := funext fun a => by fin_cases a <;> decide
  have hz1 : (fun a => (win0_1.index t₀) a * main_arg1.ty.shape.size a) = fun _ => 0 := funext fun a => by fin_cases a <;> decide
  have hz2 : (fun a => (win0_2.index t₀) a * main_arg2.ty.shape.size a) = fun _ => 0 := funext fun a => by fin_cases a <;> decide
  have hz3 : (fun a => (win0_3.index t₀) a * main_v0.ty.shape.size a) = fun _ => 0 := funext fun a => by fin_cases a <;> decide
  have hr4 := fun f => Memref.read_access_unit_zero (Elt F) main_v1 hz4 (fun a => by rw [congrFun hz4 a]; simp) f
  have e0 : (iblk m c 0 t₀ : Vec F S288x8192 .i8) = V m c main_arg0 :=
    Memref.read_access_unit_zero (Elt F) main_arg0 hz0 (fun a => by rw [congrFun hz0 a]; simp) _
  have e1 : (iblk m c 1 t₀ : Vec F S288x1 .f32) = V m c main_arg1 :=
    Memref.read_access_unit_zero (Elt F) main_arg1 hz1 (fun a => by rw [congrFun hz1 a]; simp) _
  have e2 : (iblk m c 2 t₀ : Vec F S8192x30816 .i8) = V m c main_arg2 :=
    Memref.read_access_unit_zero (Elt F) main_arg2 hz2 (fun a => by rw [congrFun hz2 a]; simp) _
  have e3 : (iblk m c 3 t₀ : Vec F S1x30816 .f32) = V m c main_v0 :=
    Memref.read_access_unit_zero (Elt F) main_v0 hz3 (fun a => by rw [congrFun hz3 a]; simp) _
  rw [e0, e1, e2, e3] at ho
  exact (hr4 _).symm.trans ho

theorem row_of_list (x : Vec F S30816 .f32) (h : S30816.ShapeCasts S1x30816) (q : Fin 30816) :
    shapeCast S1x30816 x h (ix2 0 q) = x (ix1 q) := by
  pointwise

/-- The host's reshape of the column scales to one row. -/
theorem V_ws (c : Dev nD) (h : S30816.ShapeCasts S1x30816) :
    (V m c main_v0 : Vec F S1x30816 .f32) = shapeCast S1x30816 (m ((c : Thread nD τ).loc main_arg3) : Vec F S30816 .f32) h := by
  unfold V hostOps0
  after_results
  rfl

end AnyFloat

/-! ## Over the extended reals: the result at an index -/

variable (m : (ℓ : Loc nD τ sig) → Buf (Elt Ideal) ℓ)

theorem pay_apply (x : Vec Ideal S288x8192 .i8) (xs : Vec Ideal S288x1 .f32) (w : Vec Ideal S8192x30816 .i8)
    (ws : Vec Ideal S1x30816 .f32) (g : Fin 24) (r : Fin 288) (q : Fin 1280) :
    k0_pay1 x xs w ws (ix3 g r q)
      = Spec.w8a8 (fun r k => x (ix2 r k)) (fun r => xs (ix2 r 0)) (fun k j => w (ix2 k j)) (fun j => ws (ix2 0 j)) r (Spec.col g q) := by
  have hg := g.isLt
  have hq := q.isLt
  have key : ∀ a b : Fin 30816, a.val = b.val →
      (∑ k : Fin 8192, FloatOps.sitofp (F := Ideal) FTy.bf16 (x (ix2 r k)) * FloatOps.sitofp (F := Ideal) FTy.bf16 (w (ix2 k a)))
          * (xs (ix2 r 0) * ws (ix2 0 a))
        = Spec.w8a8 (fun r k => x (ix2 r k)) (fun r => xs (ix2 r 0)) (fun k j => w (ix2 k j)) (fun j => ws (ix2 0 j)) r b :=
    fun a b e => by rw [Fin.ext e]; rfl
  pointwise [k0_pay1]
  split_ifs
  all_goals refine key _ _ ?_
  all_goals
    dsimp only at *
    unfold Spec.col
    split_ifs
    all_goals first | (exfalso; omega) | (dsimp only; omega)

theorem final_apply (c : Dev nD) (g : Fin 24) (r : Fin 288) (q : Fin 1280) :
    ((dats m 0 c).arrAt 4 cfg0.N : Vec Ideal S24x288x1280 .bf16) (ix3 g r q)
      = Spec.w8a8 (fun r k => (m ((c : Thread nD τ).loc main_arg0) : Vec Ideal S288x8192 .i8) (ix2 r k))
          (fun r => (m ((c : Thread nD τ).loc main_arg1) : Vec Ideal S288x1 .f32) (ix2 r 0))
          (fun k j => (m ((c : Thread nD τ).loc main_arg2) : Vec Ideal S8192x30816 .i8) (ix2 k j))
          (fun j => (m ((c : Thread nD τ).loc main_arg3) : Vec Ideal S30816 .f32) (ix1 j)) r (Spec.col g q) := by
  rw [final_value, pay_apply, V_main_arg0, V_main_arg1, V_main_arg2, V_ws m c (by decide)]
  exact congrArg (fun ws => Spec.w8a8 _ _ _ ws r (Spec.col g q)) (funext fun q => row_of_list _ _ q)

end Cert.Proof.InRef

end
-- ==== Proof.ProjIn.lean ====
module

public import proofs.«01_k».proof.Defs
public import proofs.«01_k».proof.Proof.ProjInKernel
public import proofs.«01_k».proof.Proof.ProjInRef

@[expose] public section

noncomputable section

namespace Cert.Proof.ProjIn

open Idealize.ShloMosaic Idealize.ShloMosaic.TcCoe Idealize.SL.Sem

/-- The kernel's call and the plain product, laid out by groups, give the same array. -/
theorem algebraic : Cert.algebraic_ProjInIdeal_ProjInRefIdeal := by
  intro m s m' s' _ hagree
  refine ⟨fun c => Cert.ProjInIdeal.Value.G10 m c, Cert.ProjInIdeal.Value.run m s,
    (θ_run _ _ _).mono (fun r h c => ?_) (Cert.ProjInRefIdeal.Value.run_blocks m' s')⟩
  refine ⟨(h c).1.trans ?_, (h c).2⟩
  obtain ⟨e0, e1, e2, e3⟩ := hagree c
  funext i
  obtain ⟨g, r, q, rfl⟩ : ∃ (g : Fin 24) (r : Fin 288) (q : Fin 1280), i = ix3 g r q := ⟨i 0, i 1, i 2, by
    funext a; match a with
    | ⟨0, _⟩ => rfl
    | ⟨1, _⟩ => rfl
    | ⟨2, _⟩ => rfl⟩
  refine (InRef.final_apply m' c g r q).trans ?_
  rw [e0, e1, e2, e3]
  exact (InKernel.G_apply m c g r q).symm

end Cert.Proof.ProjIn

end
-- ==== Proof.ProjAbKernel.lean ====
module

public import proofs.«01_k».proof.Proof.ProjAbIdealRun
public import proofs.«01_k».proof.Proof.Spec

@[expose] public section

noncomputable section

namespace Cert.Proof.AbKernel

open Cert.ProjAbIdeal Cert.ProjAbIdeal.Gen Idealize.ShloMosaic Idealize.ShloMosaic.TcCoe Idealize.SL.Sem
open Idealize.ShloMosaic.Pipeline (Dat RDat Window)

section AnyFloat

variable {F : FTy → Type} [FloatOps F]
variable (m : (ℓ : Loc nD τ sig) → Buf (Elt F) ℓ)

/-- The one grid point. -/
def t₀ : Fin cfg0.N := ⟨0, by decide⟩

/-- The blocks: the whole codes and row scales, and block 240 of the weights' and the column scales' columns. -/
theorem idx_in : win0_0.index t₀ = ![0, 0] ∧ win0_1.index t₀ = ![0, 0] ∧ win0_2.index t₀ = ![0, 240]
    ∧ win0_3.index t₀ = ![0, 240] := by
  decide +kernel

/-- How much of each block lies inside its array. -/
theorem sizes_in : win0_0.xsize (grid0.coords t₀) = ![288, 8192] ∧ win0_1.xsize (grid0.coords t₀) = ![288, 1]
    ∧ win0_2.xsize (grid0.coords t₀) = ![8192, 96] ∧ win0_3.xsize (grid0.coords t₀) = ![1, 96] := by
  decide +kernel

theorem codes_at (c : Dev nD) (d) (r : Fin 288) (k : Fin 8192) :
    (filled m c 0 t₀ d : Vec F S288x8192 .i8) (ix2 r k) = (m ((c : Thread nD τ).loc main_arg0) : Vec F S288x8192 .i8) (ix2 r k) := by
  have e := idx_in.1
  have hm : (cfg0.win 0).moved (cfg0.grid.coords t₀) (ix2 r k : S288x8192.Idx) = true := by
    refine ((cfg0.win 0).moved_iff _ _).mpr fun a => ?_
    have hs := congrFun sizes_in.1 a
    refine Nat.lt_of_lt_of_eq ?_ hs.symm
    match a with
    | ⟨0, _⟩ => exact r.isLt
    | ⟨1, _⟩ => exact k.isLt
  unfold filled Window.fill
  rw [dif_pos hm, ← V_main_arg0 m c]
  unfold iblk
  rw [View.read_apply]
  show V m c main_arg0 _ = V m c main_arg0 _
  congr 1
  funext a
  apply Fin.ext
  match a with
  | ⟨0, _⟩ => show win0_0.index t₀ 0 * 288 + 1 * r.val = r.val; rw [e]; simp
  | ⟨1, _⟩ => show win0_0.index t₀ 1 * 8192 + 1 * k.val = k.val; rw [e]; simp

theorem scales_at (c : Dev nD) (d) (r : Fin 288) :
    (filled m c 1 t₀ d : Vec F S288x1 .f32) (ix2 r 0) = (m ((c : Thread nD τ).loc main_arg1) : Vec F S288x1 .f32) (ix2 r 0) := by
  have e := idx_in.2.1
  have hm : (cfg0.win 1).moved (cfg0.grid.coords t₀) (ix2 r 0 : S288x1.Idx) = true := by
    refine ((cfg0.win 1).moved_iff _ _).mpr fun a => ?_
    have hs := congrFun sizes_in.2.1 a
    refine Nat.lt_of_lt_of_eq ?_ hs.symm
    match a with
    | ⟨0, _⟩ => exact r.isLt
    | ⟨1, _⟩ => exact Nat.zero_lt_one
  unfold filled Window.fill
  rw [dif_pos hm, ← V_main_arg1 m c]
  unfold iblk
  rw [View.read_apply]
  show V m c main_arg1 _ = V m c main_arg1 _
  congr 1
  funext a
  apply Fin.ext
  match a with
  | ⟨0, _⟩ => show win0_1.index t₀ 0 * 288 + 1 * r.val = r.val; rw [e]; simp
  | ⟨1, _⟩ => show win0_1.index t₀ 1 * 1 + 1 * 0 = 0; rw [e]; simp

/-- The weights' block at an index inside the array. -/
theorem weights_blk (c : Dev nD) (y : ((cfg0.win 2).xblock (cfg0.grid.coords t₀)).Idx) (p : Fin 30816) (k : Fin 8192)
    (h0 : (y (0 : Fin 2)).val = k.val) (h1 : 30720 + (y (1 : Fin 2)).val = p.val) :
    iblk m c 2 t₀ y = (m ((c : Thread nD τ).loc main_arg2) : Vec F S8192x30816 .i8) (ix2 k p) := by
  have e := idx_in.2.2.1
  rw [← V_main_arg2 m c]
  unfold iblk
  rw [View.read_apply]
  refine congrArg (V m c main_arg2) (?_ : (_ : S8192x30816.Idx) = ix2 k p)
  funext a
  apply Fin.ext
  match a with
  | ⟨0, _⟩ => show win0_2.index t₀ 0 * 8192 + 1 * (y (0 : Fin 2)).val = k.val; rw [e, h0]; simp
  | ⟨1, _⟩ => show win0_2.index t₀ 1 * 128 + 1 * (y (1 : Fin 2)).val = p.val; rw [e, ← h1]; simp

/-- A column of the weights inside the array. -/
theorem weights_at (c : Dev nD) (d) (k : Fin 8192) (j : Fin 128) (hj : j.val < 96) :
    (filled m c 2 t₀ d : Vec F S8192x128 .i8) (ix2 k j)
      = (m ((c : Thread nD τ).loc main_arg2) : Vec F S8192x30816 .i8) (ix2 k ⟨30720 + j.val, by omega⟩) := by
  have hm : (cfg0.win 2).moved (cfg0.grid.coords t₀) (ix2 k j : S8192x128.Idx) = true := by
    have h0 : win0_2.xsize (grid0.coords t₀) 0 = 8192 := congrFun sizes_in.2.2.1 0
    have h1 : win0_2.xsize (grid0.coords t₀) 1 = 96 := congrFun sizes_in.2.2.1 1
    exact ((cfg0.win 2).moved_iff _ _).mpr
      (Fin.forall_fin_two.mpr ⟨Nat.lt_of_lt_of_eq k.isLt h0.symm, Nat.lt_of_lt_of_eq hj h1.symm⟩)
  unfold filled Window.fill
  rw [dif_pos hm]
  exact weights_blk m c _ _ k rfl rfl

theorem row_of_list (x : Vec F S30816 .f32) (h : S30816.ShapeCasts S1x30816) (q : Fin 30816) :
    shapeCast S1x30816 x h (ix2 0 q) = x (ix1 q) := by
  pointwise

/-- The host's reshape of the column scales to one row. -/
theorem V_ws (c : Dev nD) (h : S30816.ShapeCasts S1x30816) :
    (V m c main_v0 : Vec F S1x30816 .f32) = shapeCast S1x30816 (m ((c : Thread nD τ).loc main_arg3) : Vec F S30816 .f32) h := by
  unfold V hostOps0
  after_results
  rfl

/-- A column's scale inside the array. -/
theorem wscale_at (c : Dev nD) (d) (j : Fin 128) (hj : j.val < 96) :
    (filled m c 3 t₀ d : Vec F S1x128 .f32) (ix2 0 j)
      = (m ((c : Thread nD τ).loc main_arg3) : Vec F S30816 .f32) (ix1 ⟨30720 + j.val, by omega⟩) := by
  have e := idx_in.2.2.2
  have hm : (cfg0.win 3).moved (cfg0.grid.coords t₀) (ix2 0 j : S1x128.Idx) = true := by
    have h0 : win0_3.xsize (grid0.coords t₀) 0 = 1 := congrFun sizes_in.2.2.2 0
    have h1 : win0_3.xsize (grid0.coords t₀) 1 = 96 := congrFun sizes_in.2.2.2 1
    exact ((cfg0.win 3).moved_iff _ _).mpr
      (Fin.forall_fin_two.mpr ⟨Nat.lt_of_lt_of_eq Nat.zero_lt_one h0.symm, Nat.lt_of_lt_of_eq hj h1.symm⟩)
  refine Eq.trans (b := (V m c main_v0 : Vec F S1x30816 .f32) (ix2 0 ⟨30720 + j.val, by omega⟩)) ?_ ?_
  · unfold filled Window.fill
    rw [dif_pos hm]
    unfold iblk
    rw [View.read_apply]
    show V m c main_v0 _ = V m c main_v0 _
    congr 1
    funext a
    apply Fin.ext
    match a with
    | ⟨0, _⟩ => show win0_3.index t₀ 0 * 1 + 1 * 0 = 0; rw [e]; simp
    | ⟨1, _⟩ => show win0_3.index t₀ 1 * 128 + 1 * j.val = 30720 + j.val; rw [e]; simp
  · rw [V_ws m c (by decide), row_of_list]

end AnyFloat

/-! ## Over the extended reals: the result at an index -/

variable {m : (ℓ : Loc nD τ sig) → Buf (Elt Ideal) ℓ}

theorem pay_apply (x : Vec Ideal S288x8192 .i8) (xs : Vec Ideal S288x1 .f32) (w : Vec Ideal S8192x128 .i8)
    (ws : Vec Ideal S1x128 .f32) (r : Fin 288) (j : Fin 128) :
    k0_pay2 (k0_pay1 x) w xs ws (ix2 r j)
      = Spec.w8a8 (fun r k => x (ix2 r k)) (fun r => xs (ix2 r 0)) (fun k j => w (ix2 k j)) (fun j => ws (ix2 0 j)) r j := by
  pointwise [k0_pay2, k0_pay1, Spec.w8a8, Spec.code]

/-- Column `j` of the gates' 96, row `r`: the projection's column `30720 + j`. -/
def gate (m : (ℓ : Loc nD τ sig) → Buf (Elt Ideal) ℓ) (c : Dev nD) (r : Fin 288) (j : Fin 128) (hj : j.val < 96) : EReal :=
  Spec.w8a8 (fun r k => (m ((c : Thread nD τ).loc main_arg0) : Vec Ideal S288x8192 .i8) (ix2 r k))
    (fun r => (m ((c : Thread nD τ).loc main_arg1) : Vec Ideal S288x1 .f32) (ix2 r 0))
    (fun k j => (m ((c : Thread nD τ).loc main_arg2) : Vec Ideal S8192x30816 .i8) (ix2 k j))
    (fun j => (m ((c : Thread nD τ).loc main_arg3) : Vec Ideal S30816 .f32) (ix1 j)) r ⟨30720 + j.val, by omega⟩

/-- Whatever the buffers held, the body's block at a column of the gates is the projection's. -/
theorem leaves_apply (c : Dev nD) (X : Vec Ideal S288x128 .bf16) (h : leaves4 m c t₀ X) (r : Fin 288) (j : Fin 128) (hj : j.val < 96) :
    X (ix2 r j) = gate m c r j hj := by
  obtain ⟨d0, d1, d2, d3, rfl⟩ := h
  rw [pay_apply]
  unfold gate Spec.w8a8
  simp only [codes_at m c d0, scales_at m c d1, weights_at m c d2 _ j hj, wscale_at m c d3 j hj]

theorem whole4 : (cfg0.win 4).WholeAt t₀ :=
  (by decide +kernel : win0_4.WholeAt t₀)

/-- After any run the result at a column of the gates is the projection's. -/
theorem final_apply {r' : PUnit × MemSt nD τ sig (Elt Ideal)}
    (h : Pipeline.RDat.FramePost (cfgs 0) (rdat (F := Ideal) m) (V m) r') (c : Dev nD) (r : Fin 288) (j : Fin 128) (hj : j.val < 96) :
    (r'.2.mem ((c.tc : Thread nD τ).loc main_v1) : Vec Ideal S288x128 .bf16) (ix2 r j) = gate m c r j hj := by
  obtain ⟨X, ⟨Y, -, hX⟩, hG⟩ := ((h c).1 4).emb_eq_of_wholeAt whole4
  exact (hG (ix2 r j : S288x128.Idx)).trans (leaves_apply c X hX r j hj)

end Cert.Proof.AbKernel

end
-- ==== Proof.ProjAbRef.lean ====
module

public import proofs.«01_k».proof.Proof.Gen.ProjAbRefIdeal.Value
public import proofs.«01_k».proof.Proof.Spec

@[expose] public section

noncomputable section

namespace Cert.Proof.AbRef

open Cert.ProjAbRefIdeal Cert.ProjAbRefIdeal.Gen Idealize.ShloMosaic Idealize.ShloMosaic.TcCoe Idealize.SL.Sem
open Idealize.ShloMosaic.Pipeline (Dat)

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The one grid point. -/
def t₀ : Fin cfg0.N := ⟨0, by decide⟩

theorem out_eq (x0 : Vec F S288x8192 .i8) (x1 : Vec F S288x1 .f32) (x2 : Vec F S8192x30816 .i8) (x3 : Vec F S1x30816 .f32) :
    out0_4 (F := F) x0 x1 x2 x3 = k0_pay1 x0 x1 x2 x3 := by
  unfold out0_4
  rw [View.canon_unit_zero (S := S288x128) hz, View.ld_unit_zero (S := S288x8192) hz, View.ld_unit_zero (S := S288x1) hz,
    View.ld_unit_zero (S := S8192x30816) hz, View.ld_unit_zero (S := S1x30816) hz]

/-- The result array after the run is the payload of the arrays as the region finds them. -/
theorem final_value (c : Dev nD) :
    (dats (F := F) m 0 c).arrAt 4 cfg0.N = k0_pay1 (V m c main_arg0) (V m c main_arg1) (V m c main_arg2) (V m c main_v0) := by
  have ho := Value.blocks4 m c t₀ (by decide)
  rw [Value.flushed4, out_eq] at ho
  have hz4 : (fun a => (win0_4.index t₀) a * main_v1.ty.shape.size a) = fun _ => 0 := funext fun a => by fin_cases a <;> decide
  have hz0 : (fun a => (win0_0.index t₀) a * main_arg0.ty.shape.size a) = fun _ => 0 := funext fun a => by fin_cases a <;> decide
  have hz1 : (fun a => (win0_1.index t₀) a * main_arg1.ty.shape.size a) = fun _ => 0 := funext fun a => by fin_cases a <;> decide
  have hz2 : (fun a => (win0_2.index t₀) a * main_arg2.ty.shape.size a) = fun _ => 0 := funext fun a => by fin_cases a <;> decide
  have hz3 : (fun a => (win0_3.index t₀) a * main_v0.ty.shape.size a) = fun _ => 0 := funext fun a => by fin_cases a <;> decide
  have hr4 := fun f => Memref.read_access_unit_zero (Elt F) main_v1 hz4 (fun a => by rw [congrFun hz4 a]; simp) f
  have e0 : (iblk m c 0 t₀ : Vec F S288x8192 .i8) = V m c main_arg0 :=
    Memref.read_access_unit_zero (Elt F) main_arg0 hz0 (fun a => by rw [congrFun hz0 a]; simp) _
  have e1 : (iblk m c 1 t₀ : Vec F S288x1 .f32) = V m c main_arg1 :=
    Memref.read_access_unit_zero (Elt F) main_arg1 hz1 (fun a => by rw [congrFun hz1 a]; simp) _
  have e2 : (iblk m c 2 t₀ : Vec F S8192x30816 .i8) = V m c main_arg2 :=
    Memref.read_access_unit_zero (Elt F) main_arg2 hz2 (fun a => by rw [congrFun hz2 a]; simp) _
  have e3 : (iblk m c 3 t₀ : Vec F S1x30816 .f32) = V m c main_v0 :=
    Memref.read_access_unit_zero (Elt F) main_v0 hz3 (fun a => by rw [congrFun hz3 a]; simp) _
  rw [e0, e1, e2, e3] at ho
  exact (hr4 _).symm.trans ho

theorem row_of_list (x : Vec F S30816 .f32) (h : S30816.ShapeCasts S1x30816) (q : Fin 30816) :
    shapeCast S1x30816 x h (ix2 0 q) = x (ix1 q) := by
  pointwise

/-- The host's reshape of the column scales to one row. -/
theorem V_ws (c : Dev nD) (h : S30816.ShapeCasts S1x30816) :
    (V m c main_v0 : Vec F S1x30816 .f32) = shapeCast S1x30816 (m ((c : Thread nD τ).loc main_arg3) : Vec F S30816 .f32) h := by
  unfold V hostOps0
  after_results
  rfl

end AnyFloat

/-! ## Over the extended reals: the result at an index -/

variable (m : (ℓ : Loc nD τ sig) → Buf (Elt Ideal) ℓ)

theorem pay_apply (x : Vec Ideal S288x8192 .i8) (xs : Vec Ideal S288x1 .f32) (w : Vec Ideal S8192x30816 .i8)
    (ws : Vec Ideal S1x30816 .f32) (r : Fin 288) (j : Fin 128) (hj : j.val < 96) :
    k0_pay1 x xs w ws (ix2 r j)
      = Spec.w8a8 (fun r k => x (ix2 r k)) (fun r => xs (ix2 r 0)) (fun k j => w (ix2 k j)) (fun j => ws (ix2 0 j)) r
          ⟨30720 + j.val, by omega⟩ := by
  have key : ∀ a b : Fin 30816, a.val = b.val →
      (∑ k : Fin 8192, FloatOps.sitofp (F := Ideal) FTy.bf16 (x (ix2 r k)) * FloatOps.sitofp (F := Ideal) FTy.bf16 (w (ix2 k a)))
          * (xs (ix2 r 0) * ws (ix2 0 a))
        = Spec.w8a8 (fun r k => x (ix2 r k)) (fun r => xs (ix2 r 0)) (fun k j => w (ix2 k j)) (fun j => ws (ix2 0 j)) r b :=
    fun a b e => by rw [Fin.ext e]; rfl
  pointwise [k0_pay1]
  rw [dif_pos hj]
  exact key _ _ rfl

/-- Column `j` of the gates' 96, row `r`. -/
theorem final_apply (c : Dev nD) (r : Fin 288) (j : Fin 128) (hj : j.val < 96) :
    ((dats m 0 c).arrAt 4 cfg0.N : Vec Ideal S288x128 .bf16) (ix2 r j)
      = Spec.w8a8 (fun r k => (m ((c : Thread nD τ).loc main_arg0) : Vec Ideal S288x8192 .i8) (ix2 r k))
          (fun r => (m ((c : Thread nD τ).loc main_arg1) : Vec Ideal S288x1 .f32) (ix2 r 0))
          (fun k j => (m ((c : Thread nD τ).loc main_arg2) : Vec Ideal S8192x30816 .i8) (ix2 k j))
          (fun j => (m ((c : Thread nD τ).loc main_arg3) : Vec Ideal S30816 .f32) (ix1 j)) r ⟨30720 + j.val, by omega⟩ := by
  rw [final_value, pay_apply _ _ _ _ r j hj, V_main_arg0, V_main_arg1, V_main_arg2, V_ws m c (by decide)]
  exact congrArg (fun ws => Spec.w8a8 _ _ _ ws r ⟨30720 + j.val, by omega⟩) (funext fun q => row_of_list _ _ q)

end Cert.Proof.AbRef

end
-- ==== Proof.ProjAb.lean ====
module

public import proofs.«01_k».proof.Defs
public import proofs.«01_k».proof.Proof.Gen.On_gate_columns
public import proofs.«01_k».proof.Proof.ProjAbKernel
public import proofs.«01_k».proof.Proof.ProjAbRef

@[expose] public section

noncomputable section

namespace Cert.On_gate_columns

open Idealize.ShloMosaic

/-- The mask selects the columns below 96. -/
theorem fn_apply_iff (x : IVec S288x8192 8) (xs : FVec Ideal S288x1 .f32) (w : IVec S8192x30816 8) (ws : FVec Ideal S30816 .f32)
    (i : S288x128.Idx) : fn x xs w ws i = 1#1 ↔ (i 1 : Nat) < 96 := by
  have key : ∀ r < 128, IntOp.cmpi .slt (BitVec.ofNat 32 r) 96#32 = 1#1 ↔ r < 96 := by decide
  show IntOp.cmpi .slt (BitVec.ofNat 32 (i 1 : Nat)) 96#32 = 1#1 ↔ _
  exact key _ (i 1).isLt

end Cert.On_gate_columns

namespace Cert.Proof.ProjAb

open Idealize.ShloMosaic Idealize.ShloMosaic.TcCoe Idealize.SL.Sem

/-- On the gates' 96 columns the kernel's call and the plain product give the same elements. -/
theorem algebraic : Cert.algebraic_ProjAbIdeal_ProjAbRefIdeal_on_gate_columns := by
  intro m g m' g' _ hagree
  refine ⟨fun c i => if h : (i 1 : Nat) < 96 then AbKernel.gate m c (i 0) (i 1) h else (0 : EReal), ?_, ?_⟩
  · refine (θ_run _ _ _).mono (fun r h c => ⟨fun i hi => ?_, Cert.ProjAbIdeal.Gen.args_kept h.1 c⟩) (Cert.ProjAbIdeal.Gen.run_main m g)
    have h96 := (Cert.On_gate_columns.fn_apply_iff _ _ _ _ i).mp hi
    obtain ⟨a, j, rfl⟩ : ∃ (a : Fin 288) (j : Fin 128), i = ix2 a j := ⟨i 0, i 1, by
      funext b; match b with
      | ⟨0, _⟩ => rfl
      | ⟨1, _⟩ => rfl⟩
    exact (AbKernel.final_apply h.1 c a j h96).trans (dif_pos h96).symm
  · refine (θ_run _ _ _).mono (fun r h c => ⟨fun i hi => ?_, (h c).2⟩) (Cert.ProjAbRefIdeal.Value.run_blocks m' g')
    have h96 := (Cert.On_gate_columns.fn_apply_iff _ _ _ _ i).mp hi
    obtain ⟨a, j, rfl⟩ : ∃ (a : Fin 288) (j : Fin 128), i = ix2 a j := ⟨i 0, i 1, by
      funext b; match b with
      | ⟨0, _⟩ => rfl
      | ⟨1, _⟩ => rfl⟩
    obtain ⟨e0, e1, e2, e3⟩ := hagree c
    refine (congrFun (h c).1 _).trans ((AbRef.final_apply m' c a j h96).trans (Eq.trans ?_ (dif_pos h96).symm))
    rw [e0, e1, e2, e3]
    rfl

end Cert.Proof.ProjAb

end
-- ==== Proof.YQuantKernel.lean ====
module

public import proofs.«01_k».proof.Proof.Gen.YQuantIdeal.Value
public import proofs.«01_k».proof.Proof.Quant

@[expose] public section

noncomputable section

namespace Cert.Proof.YQuantKernel

open Cert.YQuantIdeal Cert.YQuantIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## One block of 32 rows -/

theorem pay_scale (v : Vec Ideal S32x12288 .f32) (r : Fin 32) :
    k0_pay1 v (ix2 r 0) = Quant.rowScale (fun k => v (ix2 r k)) := by
  unfold k0_pay1
  dsimp only
  rw [show multiReduction (F := Ideal) .maximumf [1] S32 (absf v) 0xFF800000#32 reduces_S32x12288_S32 (.inl rfl) rfl
    = fun j => Quant.rowMax (fun k => v (ix2 (j 0) k)) from Quant.rowMax_eq v _ _ _]
  unfold Quant.rowScale
  pointwise

theorem spread (s : Vec Ideal S32x1 .f32) (r : Fin 32) (k : Fin 12288) :
    broadcastTo S32x12288 s broadcasts_S32x1_S32x12288 (ix2 r k) = s (ix2 r 0) := by
  pointwise

theorem pay_code (v : Vec Ideal S32x12288 .f32) (r : Fin 32) (k : Fin 12288) :
    k0_pay2 v (ix2 r k) = Quant.rowCode (fun k => v (ix2 r k)) k := by
  have hs := pay_scale v r
  unfold Quant.rowCode k0_pay2
  dsimp only
  refine (Quant.code_eq _ _ _ _ _).trans ?_
  generalize k0_pay1 v = s at hs ⊢
  rw [spread, hs]

theorem scale_apply (v : Vec Ideal S32x12288 .f32) (r : Fin 32) :
    out0_2 v (ix2 r 0) = Quant.rowScale (fun k => v (ix2 r k)) := by
  unfold out0_2
  rw [View.canon_unit_zero (S := S32x1) hz, View.ld_unit_zero (S := S32x12288) hz]
  exact pay_scale v r

theorem code_apply (v : Vec Ideal S32x12288 .f32) (r : Fin 32) (k : Fin 12288) :
    out0_1 v (ix2 r k) = Quant.rowCode (fun k => v (ix2 r k)) k := by
  unfold out0_1
  rw [View.canon_unit_zero (S := S32x12288) hz, View.ld_unit_zero (S := S32x12288) hz]
  exact pay_code v r k

/-! ## The blocks and the whole array -/

/-- Point `t` takes and gives rows 32 t onward. -/
theorem idx_in : ∀ t : Fin cfg0.N, win0_0.index t = ![t.val, 0] ∧ win0_1.index t = ![t.val, 0] ∧ win0_2.index t = ![t.val, 0] :=
  (by decide +kernel : ∀ t : Fin grid0.N, _)

theorem flush1 : ∀ t : Fin cfg0.N, (cfg0.win 1).flush t = true := (by decide +kernel : ∀ t : Fin grid0.N, (cfg0.win 1).flush t = true)

theorem flush2 : ∀ t : Fin cfg0.N, (cfg0.win 2).flush t = true := (by decide +kernel : ∀ t : Fin grid0.N, (cfg0.win 2).flush t = true)

theorem in_blk (c : Dev nD) (t : Fin cfg0.N) (r : Fin 32) (k : Fin 12288) :
    (iblk m c 0 t : Vec Ideal S32x12288 .f32) (ix2 r k)
      = (V m c main_arg0 : Vec Ideal S288x12288 .f32) (ix2 ⟨32 * t.val + r.val, by have := lt_of_lt_of_eq t.isLt (show cfg0.N = 9 from N_0); omega⟩ k) := by
  have e := (idx_in t).1
  unfold iblk
  rw [View.read_apply]
  show (V m c main_arg0 : Vec Ideal S288x12288 .f32) _ = _
  congr 1
  funext a
  apply Fin.ext
  match a with
  | ⟨0, _⟩ => show win0_0.index t 0 * 32 + 1 * r.val = 32 * t.val + r.val; rw [e]; simp; omega
  | ⟨1, _⟩ => show win0_0.index t 1 * 12288 + 1 * k.val = k.val; rw [e]; simp

set_option maxRecDepth 20000 in
theorem codes_at (c : Dev nD) (t : Fin cfg0.N) (r : Fin 32) (k : Fin 12288) :
    ((dats m 0 c).arrAt 1 cfg0.N : Vec Ideal S288x12288 .i8) (ix2 ⟨32 * t.val + r.val, by have := lt_of_lt_of_eq t.isLt (show cfg0.N = 9 from N_0); omega⟩ k)
      = Quant.rowCode (fun k => (iblk m c 0 t : Vec Ideal S32x12288 .f32) (ix2 r k)) k := by
  have e := (idx_in t).2.1
  have hb := congrFun (Value.blocks1 m c t (flush1 t)) (ix2 r k)
  rw [Value.flushed1, View.read_apply] at hb
  have hi : (((cfg0.win 1).blk t).view.emb (ix2 r k) : S288x12288.Idx)
      = ix2 ⟨32 * t.val + r.val, by have := lt_of_lt_of_eq t.isLt (show cfg0.N = 9 from N_0); omega⟩ k := by
    funext a
    apply Fin.ext
    match a with
    | ⟨0, _⟩ => show win0_1.index t 0 * 32 + 1 * r.val = 32 * t.val + r.val; rw [e]; simp; omega
    | ⟨1, _⟩ => show win0_1.index t 1 * 12288 + 1 * k.val = k.val; rw [e]; simp
  have hb' : ((dats m 0 c).arrAt 1 cfg0.N : Vec Ideal S288x12288 .i8) (((cfg0.win 1).blk t).view.emb (ix2 r k))
      = (out0_1 (iblk m c 0 t : Vec Ideal S32x12288 .f32) : Vec Ideal S32x12288 .i8) (ix2 r k) := hb
  rw [hi, code_apply (iblk m c 0 t) r k] at hb'
  exact hb'

theorem scales_at (c : Dev nD) (t : Fin cfg0.N) (r : Fin 32) :
    ((dats m 0 c).arrAt 2 cfg0.N : Vec Ideal S288x1 .f32) (ix2 ⟨32 * t.val + r.val, by have := lt_of_lt_of_eq t.isLt (show cfg0.N = 9 from N_0); omega⟩ 0)
      = Quant.rowScale (fun k => (iblk m c 0 t : Vec Ideal S32x12288 .f32) (ix2 r k)) := by
  have e := (idx_in t).2.2
  have hb := congrFun (Value.blocks2 m c t (flush2 t)) (ix2 r 0)
  rw [Value.flushed2, View.read_apply] at hb
  have hi : (((cfg0.win 2).blk t).view.emb (ix2 r 0) : S288x1.Idx)
      = ix2 ⟨32 * t.val + r.val, by have := lt_of_lt_of_eq t.isLt (show cfg0.N = 9 from N_0); omega⟩ 0 := by
    funext a
    apply Fin.ext
    match a with
    | ⟨0, _⟩ => show win0_2.index t 0 * 32 + 1 * r.val = 32 * t.val + r.val; rw [e]; simp; omega
    | ⟨1, _⟩ => show win0_2.index t 1 * 1 + 1 * 0 = 0; rw [e]; simp
  have hb' : ((dats m 0 c).arrAt 2 cfg0.N : Vec Ideal S288x1 .f32) (((cfg0.win 2).blk t).view.emb (ix2 r 0))
      = (out0_2 (iblk m c 0 t : Vec Ideal S32x12288 .f32) : Vec Ideal S32x1 .f32) (ix2 r 0) := hb
  rw [hi, scale_apply (iblk m c 0 t) r] at hb'
  exact hb'

/-- The point that holds row `r`, and the row's place in its block. -/
theorem split_row (r : Fin 288) : ∃ (t : Fin cfg0.N) (s : Fin 32), ∀ h, (⟨32 * t.val + s.val, h⟩ : Fin 288) = r := by
  have hN : cfg0.N = 9 := N_0
  exact ⟨⟨r.val / 32, by omega⟩, ⟨r.val % 32, by omega⟩, fun h => Fin.ext (by dsimp only; omega)⟩

theorem codes_apply (c : Dev nD) (r : Fin 288) (k : Fin 12288) :
    ((dats m 0 c).arrAt 1 cfg0.N : Vec Ideal S288x12288 .i8) (ix2 r k)
      = Quant.rowCode (fun k => (m ((c : Thread nD τ).loc main_arg0) : Vec Ideal S288x12288 .f32) (ix2 r k)) k := by
  obtain ⟨t, s, e⟩ := split_row r
  have hb := codes_at m c t s k
  simp only [in_blk, e, V_main_arg0] at hb
  exact hb

theorem scales_apply (c : Dev nD) (r : Fin 288) :
    ((dats m 0 c).arrAt 2 cfg0.N : Vec Ideal S288x1 .f32) (ix2 r 0)
      = Quant.rowScale (fun k => (m ((c : Thread nD τ).loc main_arg0) : Vec Ideal S288x12288 .f32) (ix2 r k)) := by
  obtain ⟨t, s, e⟩ := split_row r
  have hb := scales_at m c t s
  simp only [in_blk, e, V_main_arg0] at hb
  exact hb

end Cert.Proof.YQuantKernel

end
-- ==== Proof.YQuantRef.lean ====
module

public import proofs.«01_k».proof.Proof.Gen.YQuantRefIdeal.Value
public import proofs.«01_k».proof.Proof.Quant

@[expose] public section

noncomputable section

namespace Cert.Proof.YQuantRef

open Cert.YQuantRefIdeal Cert.YQuantRefIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The one grid point. -/
def t₀ : Fin cfg0.N := ⟨0, by decide⟩

theorem pay_scale (v : Vec Ideal S288x12288 .f32) (r : Fin 288) :
    k0_pay1 v (ix2 r 0) = Quant.rowScale (fun k => v (ix2 r k)) := by
  unfold k0_pay1
  dsimp only
  rw [show multiReduction (F := Ideal) .maximumf [1] S288 (absf v) 0xFF800000#32 reduces_S288x12288_S288 (.inl rfl) rfl
    = fun j => Quant.rowMax (fun k => v (ix2 (j 0) k)) from Quant.rowMax_eq v _ _ _]
  unfold Quant.rowScale
  pointwise

theorem spread (s : Vec Ideal S288x1 .f32) (r : Fin 288) (k : Fin 12288) :
    broadcastTo S288x12288 s broadcasts_S288x1_S288x12288 (ix2 r k) = s (ix2 r 0) := by
  pointwise

theorem pay_code (v : Vec Ideal S288x12288 .f32) (r : Fin 288) (k : Fin 12288) :
    k0_pay2 v (ix2 r k) = Quant.rowCode (fun k => v (ix2 r k)) k := by
  have hs := pay_scale v r
  unfold Quant.rowCode k0_pay2
  rw [Quant.sitofp_top, Quant.sitofp_bot]
  dsimp only
  refine (Quant.code_eq _ _ _ _ _).trans ?_
  generalize k0_pay1 v = s at hs ⊢
  rw [spread, hs]

theorem scale_apply (v : Vec Ideal S288x12288 .f32) (r : Fin 288) :
    out0_2 v (ix2 r 0) = Quant.rowScale (fun k => v (ix2 r k)) := by
  unfold out0_2
  rw [View.canon_unit_zero (S := S288x1) hz, View.ld_unit_zero (S := S288x12288) hz]
  exact pay_scale v r

theorem code_apply (v : Vec Ideal S288x12288 .f32) (r : Fin 288) (k : Fin 12288) :
    out0_1 v (ix2 r k) = Quant.rowCode (fun k => v (ix2 r k)) k := by
  unfold out0_1
  rw [View.canon_unit_zero (S := S288x12288) hz, View.ld_unit_zero (S := S288x12288) hz]
  exact pay_code v r k

theorem value1 (c : Dev nD) : (dats m 0 c).arrAt 1 cfg0.N = out0_1 (V m c main_arg0) := by
  have ho := Value.blocks1 m c t₀ (by decide)
  rw [Value.flushed1] at ho
  have hzo : (fun a => (win0_1.index t₀) a * main_v0_0.ty.shape.size a) = fun _ => 0 := funext fun a => by fin_cases a <;> decide
  have hz0 : (fun a => (win0_0.index t₀) a * main_arg0.ty.shape.size a) = fun _ => 0 := funext fun a => by fin_cases a <;> decide
  have hro := fun f => Memref.read_access_unit_zero (Elt Ideal) main_v0_0 hzo (fun a => by rw [congrFun hzo a]; simp) f
  have e0 : (iblk m c 0 t₀ : Vec Ideal S288x12288 .f32) = V m c main_arg0 :=
    Memref.read_access_unit_zero (Elt Ideal) main_arg0 hz0 (fun a => by rw [congrFun hz0 a]; simp) _
  rw [e0] at ho
  exact (hro _).symm.trans ho

theorem value2 (c : Dev nD) : (dats m 0 c).arrAt 2 cfg0.N = out0_2 (V m c main_arg0) := by
  have ho := Value.blocks2 m c t₀ (by decide)
  rw [Value.flushed2] at ho
  have hzo : (fun a => (win0_2.index t₀) a * main_v0_1.ty.shape.size a) = fun _ => 0 := funext fun a => by fin_cases a <;> decide
  have hz0 : (fun a => (win0_0.index t₀) a * main_arg0.ty.shape.size a) = fun _ => 0 := funext fun a => by fin_cases a <;> decide
  have hro := fun f => Memref.read_access_unit_zero (Elt Ideal) main_v0_1 hzo (fun a => by rw [congrFun hzo a]; simp) f
  have e0 : (iblk m c 0 t₀ : Vec Ideal S288x12288 .f32) = V m c main_arg0 :=
    Memref.read_access_unit_zero (Elt Ideal) main_arg0 hz0 (fun a => by rw [congrFun hz0 a]; simp) _
  rw [e0] at ho
  exact (hro _).symm.trans ho

theorem codes_apply (c : Dev nD) (r : Fin 288) (k : Fin 12288) :
    ((dats m 0 c).arrAt 1 cfg0.N : Vec Ideal S288x12288 .i8) (ix2 r k)
      = Quant.rowCode (fun k => (m ((c : Thread nD τ).loc main_arg0) : Vec Ideal S288x12288 .f32) (ix2 r k)) k := by
  rw [value1, code_apply, V_main_arg0]

theorem scales_apply (c : Dev nD) (r : Fin 288) :
    ((dats m 0 c).arrAt 2 cfg0.N : Vec Ideal S288x1 .f32) (ix2 r 0)
      = Quant.rowScale (fun k => (m ((c : Thread nD τ).loc main_arg0) : Vec Ideal S288x12288 .f32) (ix2 r k)) := by
  rw [value2, scale_apply, V_main_arg0]

end Cert.Proof.YQuantRef

end
-- ==== Proof.YQuant.lean ====
module

public import proofs.«01_k».proof.Defs
public import proofs.«01_k».proof.Proof.YQuantKernel
public import proofs.«01_k».proof.Proof.YQuantRef

@[expose] public section

noncomputable section

namespace Cert.Proof.YQuant

open Idealize.ShloMosaic Idealize.ShloMosaic.TcCoe Idealize.SL.Sem

/-- The blocked quantiser and the plain one give the same codes and the same scales. -/
theorem algebraic : Cert.algebraic_YQuantIdeal_YQuantRefIdeal := by
  intro m g m' g' _ hagree
  refine ⟨fun c => (Cert.YQuantIdeal.Gen.dats m 0 c).arrAt 1 Cert.YQuantIdeal.cfg0.N, fun c => (Cert.YQuantIdeal.Gen.dats m 0 c).arrAt 2 Cert.YQuantIdeal.cfg0.N,
    Cert.YQuantIdeal.Value.run_blocks m g, (θ_run _ _ _).mono (fun r h c => ?_) (Cert.YQuantRefIdeal.Value.run_blocks m' g')⟩
  refine ⟨(h c).1.trans ?_, (h c).2.1.trans ?_, (h c).2.2⟩
  · funext i
    obtain ⟨r, k, rfl⟩ : ∃ (r : Fin 288) (k : Fin 12288), i = ix2 r k := ⟨i 0, i 1, by
      funext a; match a with
      | ⟨0, _⟩ => rfl
      | ⟨1, _⟩ => rfl⟩
    refine (YQuantRef.codes_apply m' c r k).trans ?_
    rw [hagree c]
    exact (YQuantKernel.codes_apply m c r k).symm
  · funext i
    obtain ⟨r, rfl⟩ : ∃ (r : Fin 288), i = ix2 r 0 := ⟨i 0, by
      funext a; match a with
      | ⟨0, _⟩ => rfl
      | ⟨1, _⟩ => exact Fin.ext (by have := (i 1).isLt; change (i 1).val < 1 at this; show (i 1).val = 0; omega)⟩
    refine (YQuantRef.scales_apply m' c r).trans ?_
    rw [hagree c]
    exact (YQuantKernel.scales_apply m c r).symm

end Cert.Proof.YQuant

end
-- ==== Proof.ProjOutKernel.lean ====
module

public import proofs.«01_k».proof.Proof.Gen.ProjOutIdeal.Value
public import proofs.«01_k».proof.Proof.Spec

@[expose] public section

noncomputable section

namespace Cert.Proof.OutKernel

open Cert.ProjOutIdeal Cert.ProjOutIdeal.Gen Idealize.ShloMosaic Idealize.ShloMosaic.TcCoe Idealize.SL.Sem
open Idealize.ShloMosaic.Pipeline (Dat)

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- At a point after the first: the stored block is the payload over the carried scratch. -/
theorem out_B (c : Dev nD) (i : grid0.Coords) (a1 : Memref sig .tc .vmem S288x12288 .i8) (h1 : a1.IsWhole)
    (a2 : Memref sig .tc .vmem S288x1 .f32) (h2 : a2.IsWhole) (a3 : Memref sig .tc .vmem S12288x512 .i8) (h3 : a3.IsWhole)
    (a4 : Memref sig .tc .vmem S1x512 .f32) (h4 : a4.IsWhole) (a5 : Memref sig .tc .vmem S288x512 .bf16) (h5 : a5.IsWhole)
    (a6 : Memref sig .tc .vmem S288x12288 .bf16) (h6 : a6.IsWhole) (hc : ¬cond0_0 i)
    (x0 : Vec F S288x12288 .i8) (x1 : Vec F S288x1 .f32) (x2 : Vec F S12288x512 .i8) (x3 : Vec F S1x512 .f32)
    (xs : Vec F S288x12288 .bf16) :
    out0_B_4 c i a1 h1 a2 h2 a3 h3 a4 h4 a5 h5 a6 h6 hc x0 x1 x2 x3 xs = k0_pay2 xs x2 x1 x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero (S := S288x512) hz]
  simp only [View.readAt_eq_ld, h2.read_unread, h3.read_unread, h4.read_unread, h6.read_unread,
    View.ld_unit_zero (S := S288x12288) hz, View.ld_unit_zero (S := S288x1) hz, View.ld_unit_zero (S := S12288x512) hz,
    View.ld_unit_zero (S := S1x512) hz]

/-- At the first point the scratch receives the codes, converted, -/
theorem scr_A (c : Dev nD) (i : grid0.Coords) (a1 : Memref sig .tc .vmem S288x12288 .i8) (h1 : a1.IsWhole)
    (a2 : Memref sig .tc .vmem S288x1 .f32) (h2 : a2.IsWhole) (a3 : Memref sig .tc .vmem S12288x512 .i8) (h3 : a3.IsWhole)
    (a4 : Memref sig .tc .vmem S1x512 .f32) (h4 : a4.IsWhole) (a5 : Memref sig .tc .vmem S288x512 .bf16) (h5 : a5.IsWhole)
    (a6 : Memref sig .tc .vmem S288x12288 .bf16) (h6 : a6.IsWhole) (hc : cond0_0 i)
    (x0 : Vec F S288x12288 .i8) (x1 : Vec F S288x1 .f32) (x2 : Vec F S12288x512 .i8) (x3 : Vec F S1x512 .f32) :
    sout0_A_0 c i a1 h1 a2 h2 a3 h3 a4 h4 a5 h5 a6 h6 hc x0 x1 x2 x3 = k0_pay1 x0 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero (S := S288x12288) hz]
  simp only [View.readAt_eq_ld, h1.read_unread, View.ld_unit_zero (S := S288x12288) hz]

/-- and the stored block is the payload over them. -/
theorem out_A (c : Dev nD) (i : grid0.Coords) (a1 : Memref sig .tc .vmem S288x12288 .i8) (h1 : a1.IsWhole)
    (a2 : Memref sig .tc .vmem S288x1 .f32) (h2 : a2.IsWhole) (a3 : Memref sig .tc .vmem S12288x512 .i8) (h3 : a3.IsWhole)
    (a4 : Memref sig .tc .vmem S1x512 .f32) (h4 : a4.IsWhole) (a5 : Memref sig .tc .vmem S288x512 .bf16) (h5 : a5.IsWhole)
    (a6 : Memref sig .tc .vmem S288x12288 .bf16) (h6 : a6.IsWhole) (hc : cond0_0 i)
    (x0 : Vec F S288x12288 .i8) (x1 : Vec F S288x1 .f32) (x2 : Vec F S12288x512 .i8) (x3 : Vec F S1x512 .f32) :
    out0_A_4 c i a1 h1 a2 h2 a3 h3 a4 h4 a5 h5 a6 h6 hc x0 x1 x2 x3 = k0_pay2 (k0_pay1 x0) x2 x1 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S288x512) hz, View.readCov_unit_zero (S := S288x12288) _ hz]
  simp only [View.readAt_eq_ld, h1.read_unread, h2.read_unread, h3.read_unread, h4.read_unread,
    View.ld_unit_zero (S := S288x12288) hz, View.ld_unit_zero (S := S288x1) hz, View.ld_unit_zero (S := S12288x512) hz,
    View.ld_unit_zero (S := S1x512) hz]

/-- The windows that hold a whole array, or columns 512 t onward of one. -/
theorem idx_in : ∀ t : Fin cfg0.N, win0_0.index t = ![0, 0] ∧ win0_1.index t = ![0, 0] ∧ win0_2.index t = ![0, t.val]
    ∧ win0_3.index t = ![0, t.val] :=
  (by decide +kernel : ∀ t : Fin grid0.N, _)

theorem codes_blk (c : Dev nD) (t : Fin cfg0.N) :
    (iblk m c 0 t : Vec F S288x12288 .i8) = m ((c : Thread nD τ).loc main_arg0) := by
  have e := (idx_in t).1
  have hz0 : (fun a => (win0_0.index t) a * main_arg0.ty.shape.size a) = fun _ => 0 := funext fun a => by
    rw [e]; fin_cases a <;> rfl
  rw [← V_main_arg0 m c]
  exact Memref.read_access_unit_zero (Elt F) main_arg0 hz0 (fun a => by rw [congrFun hz0 a]; simp) _

theorem scales_blk (c : Dev nD) (t : Fin cfg0.N) :
    (iblk m c 1 t : Vec F S288x1 .f32) = m ((c : Thread nD τ).loc main_arg1) := by
  have e := (idx_in t).2.1
  have hz0 : (fun a => (win0_1.index t) a * main_arg1.ty.shape.size a) = fun _ => 0 := funext fun a => by
    rw [e]; fin_cases a <;> rfl
  rw [← V_main_arg1 m c]
  exact Memref.read_access_unit_zero (Elt F) main_arg1 hz0 (fun a => by rw [congrFun hz0 a]; simp) _

theorem weights_blk (c : Dev nD) (t : Fin cfg0.N) (k : Fin 12288) (j : Fin 512) :
    (iblk m c 2 t : Vec F S12288x512 .i8) (ix2 k j)
      = m ((c : Thread nD τ).loc main_arg2) (ix2 k ⟨512 * t.val + j.val, by have := lt_of_lt_of_eq t.isLt (show cfg0.N = 16 from N_0); omega⟩) := by
  have e := (idx_in t).2.2.1
  rw [← V_main_arg2 m c]
  unfold iblk
  rw [View.read_apply]
  show V m c main_arg2 _ = V m c main_arg2 _
  congr 1
  funext a
  apply Fin.ext
  match a with
  | ⟨0, _⟩ => show win0_2.index t 0 * 12288 + 1 * k.val = k.val; rw [e]; simp
  | ⟨1, _⟩ => show win0_2.index t 1 * 512 + 1 * j.val = 512 * t.val + j.val; rw [e]; simp; omega

theorem row_of_list (x : Vec F S8192 .f32) (h : S8192.ShapeCasts S1x8192) (q : Fin 8192) :
    shapeCast S1x8192 x h (ix2 0 q) = x (ix1 q) := by
  pointwise

/-- The host's reshape of the column scales to one row. -/
theorem V_ws (c : Dev nD) (h : S8192.ShapeCasts S1x8192) :
    (V m c main_v0 : Vec F S1x8192 .f32) = shapeCast S1x8192 (m ((c : Thread nD τ).loc main_arg3) : Vec F S8192 .f32) h := by
  unfold V hostOps0
  after_results
  rfl

theorem wscale_blk (c : Dev nD) (t : Fin cfg0.N) (j : Fin 512) :
    (iblk m c 3 t : Vec F S1x512 .f32) (ix2 0 j)
      = (m ((c : Thread nD τ).loc main_arg3) : Vec F S8192 .f32) (ix1 ⟨512 * t.val + j.val, by have := lt_of_lt_of_eq t.isLt (show cfg0.N = 16 from N_0); omega⟩) := by
  have e := (idx_in t).2.2.2
  have hN := lt_of_lt_of_eq t.isLt (show cfg0.N = 16 from N_0)
  unfold iblk
  rw [View.read_apply]
  show (V m c main_v0 : Vec F S1x8192 .f32) (((cfg0.win 3).blk t).view.emb (ix2 0 j)) = _
  have hi : (((cfg0.win 3).blk t).view.emb (ix2 0 j) : S1x8192.Idx) = ix2 0 ⟨512 * t.val + j.val, by omega⟩ := by
    funext a
    apply Fin.ext
    match a with
    | ⟨0, _⟩ => show win0_3.index t 0 * 1 + 1 * 0 = 0; rw [e]; simp
    | ⟨1, _⟩ => show win0_3.index t 1 * 512 + 1 * j.val = 512 * t.val + j.val; rw [e]; simp; omega
  rw [hi, V_ws m c (by decide), row_of_list]

/-- What the output block and the scratch hold after point `n`. -/
theorem fold_eq (c : Dev nD) : ∀ (n : ℕ) (h : n < cfg0.N),
    outsAt0 m c n h = (k0_pay2 (k0_pay1 (m ((c : Thread nD τ).loc main_arg0))) (iblk m c 2 ⟨n, h⟩) (m ((c : Thread nD τ).loc main_arg1)) (iblk m c 3 ⟨n, h⟩),
      k0_pay1 (m ((c : Thread nD τ).loc main_arg0)))
  | 0, h => by
    rw [outsAt0_A m c ⟨0, h⟩ rfl, out_A, scr_A, codes_blk, scales_blk]
  | n + 1, h => by
    have hN : cfg0.N = 16 := N_0
    have hB : ¬(⟨n + 1, h⟩ : Fin cfg0.N).val % 16 = 0 := by dsimp only; omega
    rw [outsAt0_B m c ⟨n + 1, h⟩ hB, out_B, scales_blk]
    unfold sout0_B_0
    show (k0_pay2 (outsAt0 m c n _).2 _ _ _, (outsAt0 m c n _).2) = _
    rw [fold_eq c n]

end AnyFloat

/-! ## Over the extended reals: the result at an index -/

variable (m : (ℓ : Loc nD τ sig) → Buf (Elt Ideal) ℓ)

theorem pay_apply (x : Vec Ideal S288x12288 .i8) (xs : Vec Ideal S288x1 .f32) (w : Vec Ideal S12288x512 .i8)
    (ws : Vec Ideal S1x512 .f32) (r : Fin 288) (j : Fin 512) :
    k0_pay2 (k0_pay1 x) w xs ws (ix2 r j)
      = Spec.w8a8 (fun r k => x (ix2 r k)) (fun r => xs (ix2 r 0)) (fun k j => w (ix2 k j)) (fun j => ws (ix2 0 j)) r j := by
  pointwise [k0_pay2, k0_pay1, Spec.w8a8, Spec.code]

theorem G_apply (c : Dev nD) (r : Fin 288) (j : Fin 8192) :
    (Value.G4 m c : Vec Ideal S288x8192 .bf16) (ix2 r j)
      = Spec.w8a8 (fun r k => (m ((c : Thread nD τ).loc main_arg0) : Vec Ideal S288x12288 .i8) (ix2 r k))
          (fun r => (m ((c : Thread nD τ).loc main_arg1) : Vec Ideal S288x1 .f32) (ix2 r 0))
          (fun k j => (m ((c : Thread nD τ).loc main_arg2) : Vec Ideal S12288x8192 .i8) (ix2 k j))
          (fun j => (m ((c : Thread nD τ).loc main_arg3) : Vec Ideal S8192 .f32) (ix1 j)) r j := by
  have hN : cfg0.N = 16 := N_0
  have hp : Value.pt4Of (ix2 r j) < cfg0.N := by
    show 16 * (r.val / 288 - 0) + 1 * (j.val / 512 - 0) < cfg0.N
    omega
  have hp' : Value.pt4Of (ix2 r j) = j.val / 512 := by
    show 16 * (r.val / 288 - 0) + 1 * (j.val / 512 - 0) = _
    omega
  unfold Value.G4
  rw [dif_pos hp, ← Value.outsAt0_sweep m c _ hp, fold_eq]
  dsimp only
  have hl : Value.loc4Of (ix2 r j) = ix2 r ⟨j.val % 512, Nat.mod_lt _ (by decide)⟩ := by
    funext a
    apply Fin.ext
    match a with
    | ⟨0, _⟩ => show r.val % 288 = r.val; omega
    | ⟨1, _⟩ => rfl
  rw [hl]
  rw [pay_apply]
  have hj : ∀ h, (⟨512 * Value.pt4Of (ix2 r j) + j.val % 512, h⟩ : Fin 8192) = j := fun h => Fin.ext (by
    show 512 * Value.pt4Of (ix2 r j) + j.val % 512 = j.val
    rw [hp']; omega)
  unfold Spec.w8a8
  simp only [weights_blk, wscale_blk, hj]

end Cert.Proof.OutKernel

end
-- ==== Proof.ProjOutRef.lean ====
module

public import proofs.«01_k».proof.Proof.Gen.ProjOutRefIdeal.Value
public import proofs.«01_k».proof.Proof.Spec

@[expose] public section

noncomputable section

namespace Cert.Proof.OutRef

open Cert.ProjOutRefIdeal Cert.ProjOutRefIdeal.Gen Idealize.ShloMosaic Idealize.ShloMosaic.TcCoe Idealize.SL.Sem
open Idealize.ShloMosaic.Pipeline (Dat)

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The one grid point. -/
def t₀ : Fin cfg0.N := ⟨0, by decide⟩

theorem out_eq (x0 : Vec F S288x12288 .i8) (x1 : Vec F S288x1 .f32) (x2 : Vec F S12288x8192 .i8) (x3 : Vec F S1x8192 .f32) :
    out0_4 (F := F) x0 x1 x2 x3 = k0_pay1 x0 x1 x2 x3 := by
  unfold out0_4
  rw [View.canon_unit_zero (S := S288x8192) hz, View.ld_unit_zero (S := S288x12288) hz, View.ld_unit_zero (S := S288x1) hz,
    View.ld_unit_zero (S := S12288x8192) hz, View.ld_unit_zero (S := S1x8192) hz]

/-- The result array after the run is the payload of the arrays as the region finds them. -/
theorem final_value (c : Dev nD) :
    (dats (F := F) m 0 c).arrAt 4 cfg0.N = k0_pay1 (V m c main_arg0) (V m c main_arg1) (V m c main_arg2) (V m c main_v0) := by
  have ho := Value.blocks4 m c t₀ (by decide)
  rw [Value.flushed4, out_eq] at ho
  have hz4 : (fun a => (win0_4.index t₀) a * main_v1.ty.shape.size a) = fun _ => 0 := funext fun a => by fin_cases a <;> decide
  have hz0 : (fun a => (win0_0.index t₀) a * main_arg0.ty.shape.size a) = fun _ => 0 := funext fun a => by fin_cases a <;> decide
  have hz1 : (fun a => (win0_1.index t₀) a * main_arg1.ty.shape.size a) = fun _ => 0 := funext fun a => by fin_cases a <;> decide
  have hz2 : (fun a => (win0_2.index t₀) a * main_arg2.ty.shape.size a) = fun _ => 0 := funext fun a => by fin_cases a <;> decide
  have hz3 : (fun a => (win0_3.index t₀) a * main_v0.ty.shape.size a) = fun _ => 0 := funext fun a => by fin_cases a <;> decide
  have hr4 := fun f => Memref.read_access_unit_zero (Elt F) main_v1 hz4 (fun a => by rw [congrFun hz4 a]; simp) f
  have e0 : (iblk m c 0 t₀ : Vec F S288x12288 .i8) = V m c main_arg0 :=
    Memref.read_access_unit_zero (Elt F) main_arg0 hz0 (fun a => by rw [congrFun hz0 a]; simp) _
  have e1 : (iblk m c 1 t₀ : Vec F S288x1 .f32) = V m c main_arg1 :=
    Memref.read_access_unit_zero (Elt F) main_arg1 hz1 (fun a => by rw [congrFun hz1 a]; simp) _
  have e2 : (iblk m c 2 t₀ : Vec F S12288x8192 .i8) = V m c main_arg2 :=
    Memref.read_access_unit_zero (Elt F) main_arg2 hz2 (fun a => by rw [congrFun hz2 a]; simp) _
  have e3 : (iblk m c 3 t₀ : Vec F S1x8192 .f32) = V m c main_v0 :=
    Memref.read_access_unit_zero (Elt F) main_v0 hz3 (fun a => by rw [congrFun hz3 a]; simp) _
  rw [e0, e1, e2, e3] at ho
  exact (hr4 _).symm.trans ho

theorem row_of_list (x : Vec F S8192 .f32) (h : S8192.ShapeCasts S1x8192) (q : Fin 8192) :
    shapeCast S1x8192 x h (ix2 0 q) = x (ix1 q) := by
  pointwise

/-- The host's reshape of the column scales to one row. -/
theorem V_ws (c : Dev nD) (h : S8192.ShapeCasts S1x8192) :
    (V m c main_v0 : Vec F S1x8192 .f32) = shapeCast S1x8192 (m ((c : Thread nD τ).loc main_arg3) : Vec F S8192 .f32) h := by
  unfold V hostOps0
  after_results
  rfl

end AnyFloat

/-! ## Over the extended reals: the result at an index -/

variable (m : (ℓ : Loc nD τ sig) → Buf (Elt Ideal) ℓ)

theorem pay_apply (x : Vec Ideal S288x12288 .i8) (xs : Vec Ideal S288x1 .f32) (w : Vec Ideal S12288x8192 .i8)
    (ws : Vec Ideal S1x8192 .f32) (r : Fin 288) (j : Fin 8192) :
    k0_pay1 x xs w ws (ix2 r j)
      = Spec.w8a8 (fun r k => x (ix2 r k)) (fun r => xs (ix2 r 0)) (fun k j => w (ix2 k j)) (fun j => ws (ix2 0 j)) r j := by
  pointwise [k0_pay1, Spec.w8a8, Spec.code]

theorem final_apply (c : Dev nD) (r : Fin 288) (j : Fin 8192) :
    ((dats m 0 c).arrAt 4 cfg0.N : Vec Ideal S288x8192 .bf16) (ix2 r j)
      = Spec.w8a8 (fun r k => (m ((c : Thread nD τ).loc main_arg0) : Vec Ideal S288x12288 .i8) (ix2 r k))
          (fun r => (m ((c : Thread nD τ).loc main_arg1) : Vec Ideal S288x1 .f32) (ix2 r 0))
          (fun k j => (m ((c : Thread nD τ).loc main_arg2) : Vec Ideal S12288x8192 .i8) (ix2 k j))
          (fun j => (m ((c : Thread nD τ).loc main_arg3) : Vec Ideal S8192 .f32) (ix1 j)) r j := by
  rw [final_value, pay_apply, V_main_arg0, V_main_arg1, V_main_arg2, V_ws m c (by decide)]
  exact congrArg (fun ws => Spec.w8a8 _ _ _ ws r j) (funext fun q => row_of_list _ _ q)

end Cert.Proof.OutRef

end
-- ==== Proof.ProjOut.lean ====
module

public import proofs.«01_k».proof.Defs
public import proofs.«01_k».proof.Proof.ProjOutKernel
public import proofs.«01_k».proof.Proof.ProjOutRef

@[expose] public section

noncomputable section

namespace Cert.Proof.ProjOut

open Idealize.ShloMosaic Idealize.ShloMosaic.TcCoe Idealize.SL.Sem

/-- The kernel's call and the plain product give the same array. -/
theorem algebraic : Cert.algebraic_ProjOutIdeal_ProjOutRefIdeal := by
  intro m g m' g' _ hagree
  refine ⟨fun c => Cert.ProjOutIdeal.Value.G4 m c, Cert.ProjOutIdeal.Value.run m g,
    (θ_run _ _ _).mono (fun r h c => ?_) (Cert.ProjOutRefIdeal.Value.run_blocks m' g')⟩
  refine ⟨(h c).1.trans ?_, (h c).2⟩
  obtain ⟨e0, e1, e2, e3⟩ := hagree c
  funext i
  obtain ⟨r, j, rfl⟩ : ∃ (r : Fin 288) (j : Fin 8192), i = ix2 r j := ⟨i 0, i 1, by
    funext a; match a with
    | ⟨0, _⟩ => rfl
    | ⟨1, _⟩ => rfl⟩
  refine (OutRef.final_apply m' c r j).trans ?_
  rw [e0, e1, e2, e3]
  exact (OutKernel.G_apply m c r j).symm

end Cert.Proof.ProjOut

end
-- ==== Proof.lean ====
module

public import proofs.«01_k».proof.Proof.ProjAbRun
public import proofs.«01_k».proof.Proof.ProjAbIdealRun
public import proofs.«01_k».proof.Proof.Gen.ProjAbRefIdeal.Frame
public import proofs.«01_k».proof.Proof.Gen.ProjAbRefIdeal.Value
public import proofs.«01_k».proof.Defs
public import proofs.«01_k».proof.Proof.Gen.XQuant
public import proofs.«01_k».proof.Proof.Gen.XQuant.Frame
public import proofs.«01_k».proof.Proof.Gen.XQuantIdeal
public import proofs.«01_k».proof.Proof.Gen.XQuantIdeal.Frame
public import proofs.«01_k».proof.Proof.Gen.XQuantRefIdeal
public import proofs.«01_k».proof.Proof.Gen.XQuantRefIdeal.Frame
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInRefIdeal
public import proofs.«01_k».proof.Proof.Gen.ProjInRefIdeal.Frame
public import proofs.«01_k».proof.Proof.Gen.YQuant
public import proofs.«01_k».proof.Proof.Gen.YQuant.Frame
public import proofs.«01_k».proof.Proof.Gen.YQuantIdeal
public import proofs.«01_k».proof.Proof.Gen.YQuantIdeal.Frame
public import proofs.«01_k».proof.Proof.Gen.YQuantRefIdeal
public import proofs.«01_k».proof.Proof.Gen.YQuantRefIdeal.Frame
public import proofs.«01_k».proof.Proof.Gen.ProjOut
public import proofs.«01_k».proof.Proof.Gen.ProjOut.Frame
public import proofs.«01_k».proof.Proof.Gen.ProjOutIdeal
public import proofs.«01_k».proof.Proof.Gen.ProjOutIdeal.Frame
public import proofs.«01_k».proof.Proof.Gen.ProjOutRefIdeal
public import proofs.«01_k».proof.Proof.Gen.ProjOutRefIdeal.Frame
public import proofs.«01_k».proof.Proof.XQuant
public import proofs.«01_k».proof.Proof.ProjIn
public import proofs.«01_k».proof.Proof.ProjAb
public import proofs.«01_k».proof.Proof.Gen.ProjAb
public import proofs.«01_k».proof.Proof.Gen.ProjAbIdeal
public import proofs.«01_k».proof.Proof.Gen.ProjAbRefIdeal
public import proofs.«01_k».proof.Proof.Gen.On_gate_columns
public import proofs.«01_k».proof.Proof.YQuant
public import proofs.«01_k».proof.Proof.ProjOut
public import Idealize.ShloMosaic.Adequacy
public import Idealize.ShloMosaic.Init

@[expose] public section

noncomputable section

namespace Cert.Proof

open Idealize.ShloMosaic Idealize.SL.Sem

theorem claim : Cert.Claim :=
  ⟨Cert.XQuant.Gen.facts, Cert.XQuantIdeal.Gen.facts, Cert.XQuantRefIdeal.Gen.facts, Cert.ProjIn.Gen.facts, Cert.ProjInIdeal.Gen.facts, Cert.ProjInRefIdeal.Gen.facts, Cert.ProjAb.Gen.facts, Cert.ProjAbIdeal.Gen.facts, Cert.ProjAbRefIdeal.Gen.facts, Cert.YQuant.Gen.facts, Cert.YQuantIdeal.Gen.facts, Cert.YQuantRefIdeal.Gen.facts, Cert.ProjOut.Gen.facts, Cert.ProjOutIdeal.Gen.facts, Cert.ProjOutRefIdeal.Gen.facts, Cert.On_gate_columns.Gen.facts,
   fun m ρ _ => Cert.XQuant.Gen.frame m ρ,
   fun m ρ _ => Cert.XQuantIdeal.Gen.frame m ρ,
   fun m ρ _ => Cert.XQuantRefIdeal.Gen.frame m ρ,
   fun m ρ _ => Cert.ProjIn.Gen.frame m ρ,
   fun m ρ _ => Cert.ProjInIdeal.Gen.frame m ρ,
   fun m ρ _ => Cert.ProjInRefIdeal.Gen.frame m ρ,
   fun m ρ _ => Cert.ProjAb.Gen.frame m ρ,
   fun m ρ _ => Cert.ProjAbIdeal.Gen.frame m ρ,
   fun m ρ _ => Cert.ProjAbRefIdeal.Gen.frame m ρ,
   fun m ρ _ => Cert.YQuant.Gen.frame m ρ,
   fun m ρ _ => Cert.YQuantIdeal.Gen.frame m ρ,
   fun m ρ _ => Cert.YQuantRefIdeal.Gen.frame m ρ,
   fun m ρ _ => Cert.ProjOut.Gen.frame m ρ,
   fun m ρ _ => Cert.ProjOutIdeal.Gen.frame m ρ,
   fun m ρ _ => Cert.ProjOutRefIdeal.Gen.frame m ρ,
   trivial, XQuant.algebraic,
   trivial, ProjIn.algebraic,
   trivial, ProjAb.algebraic,
   trivial, YQuant.algebraic,
   trivial, ProjOut.algebraic⟩

end Cert.Proof

end
